-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x4096 : Shape := ⟨2, ![32768, 4096]⟩
abbrev S64x4096 : Shape := ⟨2, ![64, 4096]⟩
abbrev S64 : Shape := ⟨1, ![64]⟩
abbrev S1x64 : Shape := ⟨2, ![1, 64]⟩
abbrev S32768x64 : Shape := ⟨2, ![32768, 64]⟩
abbrev S5x512x4096 : Shape := ⟨3, ![5, 512, 4096]⟩
abbrev S5 : Shape := ⟨1, ![5]⟩
abbrev S2x512x64 : Shape := ⟨3, ![2, 512, 64]⟩
abbrev S2 : Shape := ⟨1, ![2]⟩
abbrev S_ : Shape := ⟨0, ![]⟩
abbrev S1 : Shape := ⟨1, ![1]⟩
abbrev S1x512x4096 : Shape := ⟨3, ![1, 512, 4096]⟩
abbrev S512x4096 : Shape := ⟨2, ![512, 4096]⟩
abbrev S512x64 : Shape := ⟨2, ![512, 64]⟩
abbrev S512 : Shape := ⟨1, ![512]⟩
abbrev S512x1 : Shape := ⟨2, ![512, 1]⟩
abbrev S1x512x64 : Shape := ⟨3, ![1, 512, 64]⟩

abbrev nBuf : Space → Nat
  | .hbm => 5
  | .vmem => 4
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S1x64, .f32⟩
  | .hbm, ⟨4, _⟩ => ⟨S32768x64, .f32⟩
  | .local _ .vmem, ⟨0, _⟩ => ⟨S5x512x4096, .f32⟩
  | .local _ .vmem, ⟨1, _⟩ => ⟨S64x4096, .f32⟩
  | .local _ .vmem, ⟨2, _⟩ => ⟨S1x64, .f32⟩
  | .local _ .vmem, ⟨3, _⟩ => ⟨S2x512x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_scoped0 : Ref sig .tc := ⟨.vmem, 0, rfl⟩
abbrev cc0_scoped2 : Ref sig .tc := ⟨.vmem, 1, rfl⟩
abbrev cc0_scoped3 : Ref sig .tc := ⟨.vmem, 2, rfl⟩
abbrev cc0_scoped4 : Ref sig .tc := ⟨.vmem, 3, rfl⟩

abbrev nD : Nat := 1
abbrev τ : Topo := Topo.v7x

variable {F : FTy → Type} [FloatOps F]

abbrev grid0 : Pipeline.Grid := .none

def k0_off1 : Fin 1 → Nat :=
  let c0_i32_29_r0 : BitVec 32 := 0#32
  let c5_i32_r0 : BitVec 32 := 5#32
  let v30_r0 : BitVec 32 := Scalar.remui c0_i32_29_r0 c5_i32_r0
  ![v30_r0.toNat]
def k0_off2 : Fin 3 → Nat :=
  let c0_i32_29_r0 : BitVec 32 := 0#32
  let c5_i32_r0 : BitVec 32 := 5#32
  let v30_r0 : BitVec 32 := Scalar.remui c0_i32_29_r0 c5_i32_r0
  let c0_i32_30_r0 : BitVec 32 := 0#32
  let c0_i32_31_r0 : BitVec 32 := 0#32
  ![v30_r0.toNat, 0, 0]
def k0_cond1 : BitVec 1 :=
  let true_37_r0 : BitVec 1 := 1#1
  let true_5_r0 : BitVec 1 := 1#1
  let c1_i32_r0 : BitVec 32 := 1#32
  let c0_i32_6_r0 : BitVec 32 := 0#32
  let v6_r0 : BitVec 32 := Scalar.select true_5_r0 c1_i32_r0 c0_i32_6_r0
  let c64_i32_r0 : BitVec 32 := 64#32
  let v7_r0 : BitVec 1 := Scalar.cmpi .eq v6_r0 c64_i32_r0
  let c0_i32_7_r0 : BitVec 32 := 0#32
  let v8_r0 : BitVec 32 := Scalar.select v7_r0 c0_i32_7_r0 v6_r0
  let c0_i32_8_r0 : BitVec 32 := 0#32
  let v9_r0 : BitVec 32 := Scalar.addi v8_r0 c0_i32_8_r0
  let c0_i32_36_r0 : BitVec 32 := 0#32
  let v37_r0 : BitVec 1 := Scalar.cmpi .ne v9_r0 c0_i32_36_r0
  let v38_r0 : BitVec 1 := Scalar.andi true_37_r0 v37_r0
  let true_38_r0 : BitVec 1 := 1#1
  let v39_r0 : BitVec 1 := Scalar.andi v38_r0 true_38_r0
  let v40_r0 : BitVec 32 := Scalar.extui v39_r0
  let c0_i32_39_r0 : BitVec 32 := 0#32
  let v41_r0 : BitVec 1 := Scalar.cmpi .ne v40_r0 c0_i32_39_r0
  v41_r0

def k0_off3 : Fin 1 → Nat :=
  let c0_i32_34_r0 : BitVec 32 := 0#32
  let c1_i32_35_r0 : BitVec 32 := 1#32
  let v36_r0 : BitVec 32 := Scalar.addi c0_i32_34_r0 c1_i32_35_r0
  let c5_i32_99_r0 : BitVec 32 := 5#32
  let v102_r0 : BitVec 32 := Scalar.remui v36_r0 c5_i32_99_r0
  ![v102_r0.toNat]
def k0_off4 : Fin 3 → Nat :=
  let c0_i32_34_r0 : BitVec 32 := 0#32
  let c1_i32_35_r0 : BitVec 32 := 1#32
  let v36_r0 : BitVec 32 := Scalar.addi c0_i32_34_r0 c1_i32_35_r0
  let c5_i32_99_r0 : BitVec 32 := 5#32
  let v102_r0 : BitVec 32 := Scalar.remui v36_r0 c5_i32_99_r0
  let c0_i32_101_r0 : BitVec 32 := 0#32
  let c0_i32_102_r0 : BitVec 32 := 0#32
  ![v102_r0.toNat, 0, 0]
def k0_off5 : Fin 2 → Nat :=
  let c512_i32_100_r0 : BitVec 32 := 512#32
  let true_5_r0 : BitVec 1 := 1#1
  let c1_i32_r0 : BitVec 32 := 1#32
  let c0_i32_6_r0 : BitVec 32 := 0#32
  let v6_r0 : BitVec 32 := Scalar.select true_5_r0 c1_i32_r0 c0_i32_6_r0
  let c64_i32_r0 : BitVec 32 := 64#32
  let v7_r0 : BitVec 1 := Scalar.cmpi .eq v6_r0 c64_i32_r0
  let c0_i32_7_r0 : BitVec 32 := 0#32
  let v8_r0 : BitVec 32 := Scalar.select v7_r0 c0_i32_7_r0 v6_r0
  let c0_i32_8_r0 : BitVec 32 := 0#32
  let v9_r0 : BitVec 32 := Scalar.addi v8_r0 c0_i32_8_r0
  let v103_r0 : BitVec 32 := Scalar.muli c512_i32_100_r0 v9_r0
  let c0_i32_103_r0 : BitVec 32 := 0#32
  ![v103_r0.toNat, 0]
def k0_cond2 : BitVec 1 :=
  let true_41_r0 : BitVec 1 := 1#1
  let true_10_r0 : BitVec 1 := 1#1
  let true_5_r0 : BitVec 1 := 1#1
  let c1_i32_r0 : BitVec 32 := 1#32
  let c0_i32_6_r0 : BitVec 32 := 0#32
  let v6_r0 : BitVec 32 := Scalar.select true_5_r0 c1_i32_r0 c0_i32_6_r0
  let c64_i32_r0 : BitVec 32 := 64#32
  let v7_r0 : BitVec 1 := Scalar.cmpi .eq v6_r0 c64_i32_r0
  let c0_i32_7_r0 : BitVec 32 := 0#32
  let v8_r0 : BitVec 32 := Scalar.select v7_r0 c0_i32_7_r0 v6_r0
  let c1_i32_9_r0 : BitVec 32 := 1#32
  let v10_r0 : BitVec 32 := Scalar.addi v8_r0 c1_i32_9_r0
  let v11_r0 : BitVec 32 := Scalar.select true_10_r0 v10_r0 v8_r0
  let c64_i32_11_r0 : BitVec 32 := 64#32
  let v12_r0 : BitVec 1 := Scalar.cmpi .eq v11_r0 c64_i32_11_r0
  let c0_i32_12_r0 : BitVec 32 := 0#32
  let v13_r0 : BitVec 32 := Scalar.select v12_r0 c0_i32_12_r0 v11_r0
  let c0_i32_13_r0 : BitVec 32 := 0#32
  let v14_r0 : BitVec 32 := Scalar.addi v13_r0 c0_i32_13_r0
  let c0_i32_8_r0 : BitVec 32 := 0#32
  let v9_r0 : BitVec 32 := Scalar.addi v8_r0 c0_i32_8_r0
  let v44_r0 : BitVec 1 := Scalar.cmpi .ne v14_r0 v9_r0
  let v45_r0 : BitVec 1 := Scalar.andi true_41_r0 v44_r0
  let true_42_r0 : BitVec 1 := 1#1
  let v46_r0 : BitVec 1 := Scalar.andi v45_r0 true_42_r0
  let v47_r0 : BitVec 32 := Scalar.extui v46_r0
  let c0_i32_43_r0 : BitVec 32 := 0#32
  let v48_r0 : BitVec 1 := Scalar.cmpi .ne v47_r0 c0_i32_43_r0
  v48_r0

def k0_off6 : Fin 1 → Nat :=
  let true_37_r0 : BitVec 1 := 1#1
  let true_5_r0 : BitVec 1 := 1#1
  let c1_i32_r0 : BitVec 32 := 1#32
  let c0_i32_6_r0 : BitVec 32 := 0#32
  let v6_r0 : BitVec 32 := Scalar.select true_5_r0 c1_i32_r0 c0_i32_6_r0
  let c64_i32_r0 : BitVec 32 := 64#32
  let v7_r0 : BitVec 1 := Scalar.cmpi .eq v6_r0 c64_i32_r0
  let c0_i32_7_r0 : BitVec 32 := 0#32
  let v8_r0 : BitVec 32 := Scalar.select v7_r0 c0_i32_7_r0 v6_r0
  let c0_i32_8_r0 : BitVec 32 := 0#32
  let v9_r0 : BitVec 32 := Scalar.addi v8_r0 c0_i32_8_r0
  let c0_i32_36_r0 : BitVec 32 := 0#32
  let v37_r0 : BitVec 1 := Scalar.cmpi .ne v9_r0 c0_i32_36_r0
  let v38_r0 : BitVec 1 := Scalar.andi true_37_r0 v37_r0
  let c0_i32_34_r0 : BitVec 32 := 0#32
  let c1_i32_35_r0 : BitVec 32 := 1#32
  let v36_r0 : BitVec 32 := Scalar.addi c0_i32_34_r0 c1_i32_35_r0
  let c1_i32_40_r0 : BitVec 32 := 1#32
  let v42_r0 : BitVec 32 := Scalar.addi v36_r0 c1_i32_40_r0
  let v43_r0 : BitVec 32 := Scalar.select v38_r0 v42_r0 v36_r0
  let c5_i32_99_r0 : BitVec 32 := 5#32
  let v102_r0 : BitVec 32 := Scalar.remui v43_r0 c5_i32_99_r0
  ![v102_r0.toNat]
def k0_off7 : Fin 3 → Nat :=
  let true_37_r0 : BitVec 1 := 1#1
  let true_5_r0 : BitVec 1 := 1#1
  let c1_i32_r0 : BitVec 32 := 1#32
  let c0_i32_6_r0 : BitVec 32 := 0#32
  let v6_r0 : BitVec 32 := Scalar.select true_5_r0 c1_i32_r0 c0_i32_6_r0
  let c64_i32_r0 : BitVec 32 := 64#32
  let v7_r0 : BitVec 1 := Scalar.cmpi .eq v6_r0 c64_i32_r0
  let c0_i32_7_r0 : BitVec 32 := 0#32
  let v8_r0 : BitVec 32 := Scalar.select v7_r0 c0_i32_7_r0 v6_r0
  let c0_i32_8_r0 : BitVec 32 := 0#32
  let v9_r0 : BitVec 32 := Scalar.addi v8_r0 c0_i32_8_r0
  let c0_i32_36_r0 : BitVec 32 := 0#32
  let v37_r0 : BitVec 1 := Scalar.cmpi .ne v9_r0 c0_i32_36_r0
  let v38_r0 : BitVec 1 := Scalar.andi true_37_r0 v37_r0
  let c0_i32_34_r0 : BitVec 32 := 0#32
  let c1_i32_35_r0 : BitVec 32 := 1#32
  let v36_r0 : BitVec 32 := Scalar.addi c0_i32_34_r0 c1_i32_35_r0
  let c1_i32_40_r0 : BitVec 32 := 1#32
  let v42_r0 : BitVec 32 := Scalar.addi v36_r0 c1_i32_40_r0
  let v43_r0 : BitVec 32 := Scalar.select v38_r0 v42_r0 v36_r0
  let c5_i32_99_r0 : BitVec 32 := 5#32
  let v102_r0 : BitVec 32 := Scalar.remui v43_r0 c5_i32_99_r0
  let c0_i32_101_r0 : BitVec 32 := 0#32
  let c0_i32_102_r0 : BitVec 32 := 0#32
  ![v102_r0.toNat, 0, 0]
def k0_off8 : Fin 2 → Nat :=
  let c512_i32_100_r0 : BitVec 32 := 512#32
  let true_10_r0 : BitVec 1 := 1#1
  let true_5_r0 : BitVec 1 := 1#1
  let c1_i32_r0 : BitVec 32 := 1#32
  let c0_i32_6_r0 : BitVec 32 := 0#32
  let v6_r0 : BitVec 32 := Scalar.select true_5_r0 c1_i32_r0 c0_i32_6_r0
  let c64_i32_r0 : BitVec 32 := 64#32
  let v7_r0 : BitVec 1 := Scalar.cmpi .eq v6_r0 c64_i32_r0
  let c0_i32_7_r0 : BitVec 32 := 0#32
  let v8_r0 : BitVec 32 := Scalar.select v7_r0 c0_i32_7_r0 v6_r0
  let c1_i32_9_r0 : BitVec 32 := 1#32
  let v10_r0 : BitVec 32 := Scalar.addi v8_r0 c1_i32_9_r0
  let v11_r0 : BitVec 32 := Scalar.select true_10_r0 v10_r0 v8_r0
  let c64_i32_11_r0 : BitVec 32 := 64#32
  let v12_r0 : BitVec 1 := Scalar.cmpi .eq v11_r0 c64_i32_11_r0
  let c0_i32_12_r0 : BitVec 32 := 0#32
  let v13_r0 : BitVec 32 := Scalar.select v12_r0 c0_i32_12_r0 v11_r0
  let c0_i32_13_r0 : BitVec 32 := 0#32
  let v14_r0 : BitVec 32 := Scalar.addi v13_r0 c0_i32_13_r0
  let v103_r0 : BitVec 32 := Scalar.muli c512_i32_100_r0 v14_r0
  let c0_i32_103_r0 : BitVec 32 := 0#32
  ![v103_r0.toNat, 0]
def k0_cond3 : BitVec 1 :=
  let true_45_r0 : BitVec 1 := 1#1
  let true_15_r0 : BitVec 1 := 1#1
  let true_10_r0 : BitVec 1 := 1#1
  let true_5_r0 : BitVec 1 := 1#1
  let c1_i32_r0 : BitVec 32 := 1#32
  let c0_i32_6_r0 : BitVec 32 := 0#32
  let v6_r0 : BitVec 32 := Scalar.select true_5_r0 c1_i32_r0 c0_i32_6_r0
  let c64_i32_r0 : BitVec 32 := 64#32
  let v7_r0 : BitVec 1 := Scalar.cmpi .eq v6_r0 c64_i32_r0
  let c0_i32_7_r0 : BitVec 32 := 0#32
  let v8_r0 : BitVec 32 := Scalar.select v7_r0 c0_i32_7_r0 v6_r0
  let c1_i32_9_r0 : BitVec 32 := 1#32
  let v10_r0 : BitVec 32 := Scalar.addi v8_r0 c1_i32_9_r0
  let v11_r0 : BitVec 32 := Scalar.select true_10_r0 v10_r0 v8_r0
  let c64_i32_11_r0 : BitVec 32 := 64#32
  let v12_r0 : BitVec 1 := Scalar.cmpi .eq v11_r0 c64_i32_11_r0
  let c0_i32_12_r0 : BitVec 32 := 0#32
  let v13_r0 : BitVec 32 := Scalar.select v12_r0 c0_i32_12_r0 v11_r0
  let c1_i32_14_r0 : BitVec 32 := 1#32
  let v15_r0 : BitVec 32 := Scalar.addi v13_r0 c1_i32_14_r0
  let v16_r0 : BitVec 32 := Scalar.select true_15_r0 v15_r0 v13_r0
  let c64_i32_16_r0 : BitVec 32 := 64#32
  let v17_r0 : BitVec 1 := Scalar.cmpi .eq v16_r0 c64_i32_16_r0
  let c0_i32_17_r0 : BitVec 32 := 0#32
  let v18_r0 : BitVec 32 := Scalar.select v17_r0 c0_i32_17_r0 v16_r0
  let c0_i32_18_r0 : BitVec 32 := 0#32
  let v19_r0 : BitVec 32 := Scalar.addi v18_r0 c0_i32_18_r0
  let c0_i32_13_r0 : BitVec 32 := 0#32
  let v14_r0 : BitVec 32 := Scalar.addi v13_r0 c0_i32_13_r0
  let v51_r0 : BitVec 1 := Scalar.cmpi .ne v19_r0 v14_r0
  let v52_r0 : BitVec 1 := Scalar.andi true_45_r0 v51_r0
  let true_46_r0 : BitVec 1 := 1#1
  let v53_r0 : BitVec 1 := Scalar.andi v52_r0 true_46_r0
  let v54_r0 : BitVec 32 := Scalar.extui v53_r0
  let c0_i32_47_r0 : BitVec 32 := 0#32
  let v55_r0 : BitVec 1 := Scalar.cmpi .ne v54_r0 c0_i32_47_r0
  v55_r0

def k0_off9 : Fin 1 → Nat :=
  let true_41_r0 : BitVec 1 := 1#1
  let true_10_r0 : BitVec 1 := 1#1
  let true_5_r0 : BitVec 1 := 1#1
  let c1_i32_r0 : BitVec 32 := 1#32
  let c0_i32_6_r0 : BitVec 32 := 0#32
  let v6_r0 : BitVec 32 := Scalar.select true_5_r0 c1_i32_r0 c0_i32_6_r0
  let c64_i32_r0 : BitVec 32 := 64#32
  let v7_r0 : BitVec 1 := Scalar.cmpi .eq v6_r0 c64_i32_r0
  let c0_i32_7_r0 : BitVec 32 := 0#32
  let v8_r0 : BitVec 32 := Scalar.select v7_r0 c0_i32_7_r0 v6_r0
  let c1_i32_9_r0 : BitVec 32 := 1#32
  let v10_r0 : BitVec 32 := Scalar.addi v8_r0 c1_i32_9_r0
  let v11_r0 : BitVec 32 := Scalar.select true_10_r0 v10_r0 v8_r0
  let c64_i32_11_r0 : BitVec 32 := 64#32
  let v12_r0 : BitVec 1 := Scalar.cmpi .eq v11_r0 c64_i32_11_r0
  let c0_i32_12_r0 : BitVec 32 := 0#32
  let v13_r0 : BitVec 32 := Scalar.select v12_r0 c0_i32_12_r0 v11_r0
  let c0_i32_13_r0 : BitVec 32 := 0#32
  let v14_r0 : BitVec 32 := Scalar.addi v13_r0 c0_i32_13_r0
  let c0_i32_8_r0 : BitVec 32 := 0#32
  let v9_r0 : BitVec 32 := Scalar.addi v8_r0 c0_i32_8_r0
  let v44_r0 : BitVec 1 := Scalar.cmpi .ne v14_r0 v9_r0
  let v45_r0 : BitVec 1 := Scalar.andi true_41_r0 v44_r0
  let true_37_r0 : BitVec 1 := 1#1
  let c0_i32_36_r0 : BitVec 32 := 0#32
  let v37_r0 : BitVec 1 := Scalar.cmpi .ne v9_r0 c0_i32_36_r0
  let v38_r0 : BitVec 1 := Scalar.andi true_37_r0 v37_r0
  let c0_i32_34_r0 : BitVec 32 := 0#32
  let c1_i32_35_r0 : BitVec 32 := 1#32
  let v36_r0 : BitVec 32 := Scalar.addi c0_i32_34_r0 c1_i32_35_r0
  let c1_i32_40_r0 : BitVec 32 := 1#32
  let v42_r0 : BitVec 32 := Scalar.addi v36_r0 c1_i32_40_r0
  let v43_r0 : BitVec 32 := Scalar.select v38_r0 v42_r0 v36_r0
  let c1_i32_44_r0 : BitVec 32 := 1#32
  let v49_r0 : BitVec 32 := Scalar.addi v43_r0 c1_i32_44_r0
  let v50_r0 : BitVec 32 := Scalar.select v45_r0 v49_r0 v43_r0
  let c5_i32_99_r0 : BitVec 32 := 5#32
  let v102_r0 : BitVec 32 := Scalar.remui v50_r0 c5_i32_99_r0
  ![v102_r0.toNat]
def k0_off10 : Fin 3 → Nat :=
  let true_41_r0 : BitVec 1 := 1#1
  let true_10_r0 : BitVec 1 := 1#1
  let true_5_r0 : BitVec 1 := 1#1
  let c1_i32_r0 : BitVec 32 := 1#32
  let c0_i32_6_r0 : BitVec 32 := 0#32
  let v6_r0 : BitVec 32 := Scalar.select true_5_r0 c1_i32_r0 c0_i32_6_r0
  let c64_i32_r0 : BitVec 32 := 64#32
  let v7_r0 : BitVec 1 := Scalar.cmpi .eq v6_r0 c64_i32_r0
  let c0_i32_7_r0 : BitVec 32 := 0#32
  let v8_r0 : BitVec 32 := Scalar.select v7_r0 c0_i32_7_r0 v6_r0
  let c1_i32_9_r0 : BitVec 32 := 1#32
  let v10_r0 : BitVec 32 := Scalar.addi v8_r0 c1_i32_9_r0
  let v11_r0 : BitVec 32 := Scalar.select true_10_r0 v10_r0 v8_r0
  let c64_i32_11_r0 : BitVec 32 := 64#32
  let v12_r0 : BitVec 1 := Scalar.cmpi .eq v11_r0 c64_i32_11_r0
  let c0_i32_12_r0 : BitVec 32 := 0#32
  let v13_r0 : BitVec 32 := Scalar.select v12_r0 c0_i32_12_r0 v11_r0
  let c0_i32_13_r0 : BitVec 32 := 0#32
  let v14_r0 : BitVec 32 := Scalar.addi v13_r0 c0_i32_13_r0
  let c0_i32_8_r0 : BitVec 32 := 0#32
  let v9_r0 : BitVec 32 := Scalar.addi v8_r0 c0_i32_8_r0
  let v44_r0 : BitVec 1 := Scalar.cmpi .ne v14_r0 v9_r0
  let v45_r0 : BitVec 1 := Scalar.andi true_41_r0 v44_r0
  let true_37_r0 : BitVec 1 := 1#1
  let c0_i32_36_r0 : BitVec 32 := 0#32
  let v37_r0 : BitVec 1 := Scalar.cmpi .ne v9_r0 c0_i32_36_r0
  let v38_r0 : BitVec 1 := Scalar.andi true_37_r0 v37_r0
  let c0_i32_34_r0 : BitVec 32 := 0#32
  let c1_i32_35_r0 : BitVec 32 := 1#32
  let v36_r0 : BitVec 32 := Scalar.addi c0_i32_34_r0 c1_i32_35_r0
  let c1_i32_40_r0 : BitVec 32 := 1#32
  let v42_r0 : BitVec 32 := Scalar.addi v36_r0 c1_i32_40_r0
  let v43_r0 : BitVec 32 := Scalar.select v38_r0 v42_r0 v36_r0
  let c1_i32_44_r0 : BitVec 32 := 1#32
  let v49_r0 : BitVec 32 := Scalar.addi v43_r0 c1_i32_44_r0
  let v50_r0 : BitVec 32 := Scalar.select v45_r0 v49_r0 v43_r0
  let c5_i32_99_r0 : BitVec 32 := 5#32
  let v102_r0 : BitVec 32 := Scalar.remui v50_r0 c5_i32_99_r0
  let c0_i32_101_r0 : BitVec 32 := 0#32
  let c0_i32_102_r0 : BitVec 32 := 0#32
  ![v102_r0.toNat, 0, 0]
def k0_off11 : Fin 2 → Nat :=
  let c512_i32_100_r0 : BitVec 32 := 512#32
  let true_15_r0 : BitVec 1 := 1#1
  let true_10_r0 : BitVec 1 := 1#1
  let true_5_r0 : BitVec 1 := 1#1
  let c1_i32_r0 : BitVec 32 := 1#32
  let c0_i32_6_r0 : BitVec 32 := 0#32
  let v6_r0 : BitVec 32 := Scalar.select true_5_r0 c1_i32_r0 c0_i32_6_r0
  let c64_i32_r0 : BitVec 32 := 64#32
  let v7_r0 : BitVec 1 := Scalar.cmpi .eq v6_r0 c64_i32_r0
  let c0_i32_7_r0 : BitVec 32 := 0#32
  let v8_r0 : BitVec 32 := Scalar.select v7_r0 c0_i32_7_r0 v6_r0
  let c1_i32_9_r0 : BitVec 32 := 1#32
  let v10_r0 : BitVec 32 := Scalar.addi v8_r0 c1_i32_9_r0
  let v11_r0 : BitVec 32 := Scalar.select true_10_r0 v10_r0 v8_r0
  let c64_i32_11_r0 : BitVec 32 := 64#32
  let v12_r0 : BitVec 1 := Scalar.cmpi .eq v11_r0 c64_i32_11_r0
  let c0_i32_12_r0 : BitVec 32 := 0#32
  let v13_r0 : BitVec 32 := Scalar.select v12_r0 c0_i32_12_r0 v11_r0
  let c1_i32_14_r0 : BitVec 32 := 1#32
  let v15_r0 : BitVec 32 := Scalar.addi v13_r0 c1_i32_14_r0
  let v16_r0 : BitVec 32 := Scalar.select true_15_r0 v15_r0 v13_r0
  let c64_i32_16_r0 : BitVec 32 := 64#32
  let v17_r0 : BitVec 1 := Scalar.cmpi .eq v16_r0 c64_i32_16_r0
  let c0_i32_17_r0 : BitVec 32 := 0#32
  let v18_r0 : BitVec 32 := Scalar.select v17_r0 c0_i32_17_r0 v16_r0
  let c0_i32_18_r0 : BitVec 32 := 0#32
  let v19_r0 : BitVec 32 := Scalar.addi v18_r0 c0_i32_18_r0
  let v103_r0 : BitVec 32 := Scalar.muli c512_i32_100_r0 v19_r0
  let c0_i32_103_r0 : BitVec 32 := 0#32
  ![v103_r0.toNat, 0]
@[reducible] def k0_t1_loop : Scf.Loop 32 :=
  let c0_i32_57_r0 : BitVec 32 := 0#32
  let c64_i32_58_r0 : BitVec 32 := 64#32
  let v58_r0 : BitVec 32 := Scalar.addi c0_i32_57_r0 c64_i32_58_r0
  let c1_i32_59_r0 : BitVec 32 := 1#32
  ⟨c0_i32_57_r0, v58_r0, c1_i32_59_r0⟩
def k0_off12 (arg5_r0 : BitVec 32) : Fin 1 → Nat :=
  let c5_i32_174_r0 : BitVec 32 := 5#32
  let v225_r0 : BitVec 32 := Scalar.remui arg5_r0 c5_i32_174_r0
  ![v225_r0.toNat]
def k0_cond4 (k0_t1 : Fin k0_t1_loop.trips) (arg11_r0 : BitVec 32) : BitVec 1 :=
  let true_118_r0 : BitVec 1 := 1#1
  let true_113_r0 : BitVec 1 := 1#1
  let true_108_r0 : BitVec 1 := 1#1
  let c1_i32_107_r0 : BitVec 32 := 1#32
  let v110_r0 : BitVec 32 := Scalar.addi arg11_r0 c1_i32_107_r0
  let v111_r0 : BitVec 32 := Scalar.select true_108_r0 v110_r0 arg11_r0
  let c64_i32_109_r0 : BitVec 32 := 64#32
  let v112_r0 : BitVec 1 := Scalar.cmpi .eq v111_r0 c64_i32_109_r0
  let c0_i32_110_r0 : BitVec 32 := 0#32
  let v113_r0 : BitVec 32 := Scalar.select v112_r0 c0_i32_110_r0 v111_r0
  let c1_i32_112_r0 : BitVec 32 := 1#32
  let v115_r0 : BitVec 32 := Scalar.addi v113_r0 c1_i32_112_r0
  let v116_r0 : BitVec 32 := Scalar.select true_113_r0 v115_r0 v113_r0
  let c64_i32_114_r0 : BitVec 32 := 64#32
  let v117_r0 : BitVec 1 := Scalar.cmpi .eq v116_r0 c64_i32_114_r0
  let c0_i32_115_r0 : BitVec 32 := 0#32
  let v118_r0 : BitVec 32 := Scalar.select v117_r0 c0_i32_115_r0 v116_r0
  let c1_i32_117_r0 : BitVec 32 := 1#32
  let v120_r0 : BitVec 32 := Scalar.addi v118_r0 c1_i32_117_r0
  let v121_r0 : BitVec 32 := Scalar.select true_118_r0 v120_r0 v118_r0
  let c64_i32_119_r0 : BitVec 32 := 64#32
  let v122_r0 : BitVec 1 := Scalar.cmpi .eq v121_r0 c64_i32_119_r0
  let c0_i32_120_r0 : BitVec 32 := 0#32
  let v123_r0 : BitVec 32 := Scalar.select v122_r0 c0_i32_120_r0 v121_r0
  let c0_i32_121_r0 : BitVec 32 := 0#32
  let v124_r0 : BitVec 32 := Scalar.addi v123_r0 c0_i32_121_r0
  let true_123_r0 : BitVec 1 := 1#1
  let c1_i32_122_r0 : BitVec 32 := 1#32
  let v125_r0 : BitVec 32 := Scalar.addi v123_r0 c1_i32_122_r0
  let v126_r0 : BitVec 32 := Scalar.select true_123_r0 v125_r0 v123_r0
  let c64_i32_124_r0 : BitVec 32 := 64#32
  let v127_r0 : BitVec 1 := Scalar.cmpi .eq v126_r0 c64_i32_124_r0
  let c0_i32_125_r0 : BitVec 32 := 0#32
  let v128_r0 : BitVec 32 := Scalar.select v127_r0 c0_i32_125_r0 v126_r0
  let c0_i32_126_r0 : BitVec 32 := 0#32
  let v129_r0 : BitVec 32 := Scalar.addi v128_r0 c0_i32_126_r0
  let v135_r0 : BitVec 1 := Scalar.cmpi .ne v124_r0 v129_r0
  let c0_i32_57_r0 : BitVec 32 := 0#32
  let c1_i32_59_r0 : BitVec 32 := 1#32
  let arg4_r0 : BitVec 32 := Scf.iv c0_i32_57_r0 c1_i32_59_r0 k0_t1
  let c60_i32_r0 : BitVec 32 := 60#32
  let v136_r0 : BitVec 1 := Scalar.cmpi .sge arg4_r0 c60_i32_r0
  let true_132_r0 : BitVec 1 := 1#1
  let v137_r0 : BitVec 1 := Scalar.xori v136_r0 true_132_r0
  let v138_r0 : BitVec 1 := Scalar.andi v135_r0 v137_r0
  let true_133_r0 : BitVec 1 := 1#1
  let v139_r0 : BitVec 1 := Scalar.andi v138_r0 true_133_r0
  let v140_r0 : BitVec 32 := Scalar.extui v139_r0
  let c0_i32_134_r0 : BitVec 32 := 0#32
  let v141_r0 : BitVec 1 := Scalar.cmpi .ne v140_r0 c0_i32_134_r0
  v141_r0

def k0_off13 (arg5_r0 : BitVec 32) : Fin 3 → Nat :=
  let c5_i32_174_r0 : BitVec 32 := 5#32
  let v225_r0 : BitVec 32 := Scalar.remui arg5_r0 c5_i32_174_r0
  let c0_i32_176_r0 : BitVec 32 := 0#32
  let c0_i32_177_r0 : BitVec 32 := 0#32
  ![v225_r0.toNat, 0, 0]
def k0_off14 (arg11_r0 : BitVec 32) : Fin 2 → Nat :=
  let c512_i32_175_r0 : BitVec 32 := 512#32
  let true_123_r0 : BitVec 1 := 1#1
  let true_118_r0 : BitVec 1 := 1#1
  let true_113_r0 : BitVec 1 := 1#1
  let true_108_r0 : BitVec 1 := 1#1
  let c1_i32_107_r0 : BitVec 32 := 1#32
  let v110_r0 : BitVec 32 := Scalar.addi arg11_r0 c1_i32_107_r0
  let v111_r0 : BitVec 32 := Scalar.select true_108_r0 v110_r0 arg11_r0
  let c64_i32_109_r0 : BitVec 32 := 64#32
  let v112_r0 : BitVec 1 := Scalar.cmpi .eq v111_r0 c64_i32_109_r0
  let c0_i32_110_r0 : BitVec 32 := 0#32
  let v113_r0 : BitVec 32 := Scalar.select v112_r0 c0_i32_110_r0 v111_r0
  let c1_i32_112_r0 : BitVec 32 := 1#32
  let v115_r0 : BitVec 32 := Scalar.addi v113_r0 c1_i32_112_r0
  let v116_r0 : BitVec 32 := Scalar.select true_113_r0 v115_r0 v113_r0
  let c64_i32_114_r0 : BitVec 32 := 64#32
  let v117_r0 : BitVec 1 := Scalar.cmpi .eq v116_r0 c64_i32_114_r0
  let c0_i32_115_r0 : BitVec 32 := 0#32
  let v118_r0 : BitVec 32 := Scalar.select v117_r0 c0_i32_115_r0 v116_r0
  let c1_i32_117_r0 : BitVec 32 := 1#32
  let v120_r0 : BitVec 32 := Scalar.addi v118_r0 c1_i32_117_r0
  let v121_r0 : BitVec 32 := Scalar.select true_118_r0 v120_r0 v118_r0
  let c64_i32_119_r0 : BitVec 32 := 64#32
  let v122_r0 : BitVec 1 := Scalar.cmpi .eq v121_r0 c64_i32_119_r0
  let c0_i32_120_r0 : BitVec 32 := 0#32
  let v123_r0 : BitVec 32 := Scalar.select v122_r0 c0_i32_120_r0 v121_r0
  let c1_i32_122_r0 : BitVec 32 := 1#32
  let v125_r0 : BitVec 32 := Scalar.addi v123_r0 c1_i32_122_r0
  let v126_r0 : BitVec 32 := Scalar.select true_123_r0 v125_r0 v123_r0
  let c64_i32_124_r0 : BitVec 32 := 64#32
  let v127_r0 : BitVec 1 := Scalar.cmpi .eq v126_r0 c64_i32_124_r0
  let c0_i32_125_r0 : BitVec 32 := 0#32
  let v128_r0 : BitVec 32 := Scalar.select v127_r0 c0_i32_125_r0 v126_r0
  let c0_i32_126_r0 : BitVec 32 := 0#32
  let v129_r0 : BitVec 32 := Scalar.addi v128_r0 c0_i32_126_r0
  let v226_r0 : BitVec 32 := Scalar.muli c512_i32_175_r0 v129_r0
  let c0_i32_178_r0 : BitVec 32 := 0#32
  ![v226_r0.toNat, 0]
def k0_off15 (arg6_r0 : BitVec 32) : Fin 1 → Nat :=
  let c5_i32_175_r0 : BitVec 32 := 5#32
  let v226_r0 : BitVec 32 := Scalar.remui arg6_r0 c5_i32_175_r0
  ![v226_r0.toNat]
def k0_cond5 (k0_t1 : Fin k0_t1_loop.trips) (arg11_r0 : BitVec 32) : BitVec 1 :=
  let c0_i32_101_r0 : BitVec 32 := 0#32
  let v104_r0 : BitVec 32 := Scalar.addi arg11_r0 c0_i32_101_r0
  let true_103_r0 : BitVec 1 := 1#1
  let c1_i32_102_r0 : BitVec 32 := 1#32
  let v105_r0 : BitVec 32 := Scalar.subi arg11_r0 c1_i32_102_r0
  let v106_r0 : BitVec 32 := Scalar.select true_103_r0 v105_r0 arg11_r0
  let c_m1_i32_104_r0 : BitVec 32 := 4294967295#32
  let v107_r0 : BitVec 1 := Scalar.cmpi .eq v106_r0 c_m1_i32_104_r0
  let c63_i32_105_r0 : BitVec 32 := 63#32
  let v108_r0 : BitVec 32 := Scalar.select v107_r0 c63_i32_105_r0 v106_r0
  let c0_i32_106_r0 : BitVec 32 := 0#32
  let v109_r0 : BitVec 32 := Scalar.addi v108_r0 c0_i32_106_r0
  let v149_r0 : BitVec 1 := Scalar.cmpi .ne v104_r0 v109_r0
  let c0_i32_57_r0 : BitVec 32 := 0#32
  let c1_i32_59_r0 : BitVec 32 := 1#32
  let arg4_r0 : BitVec 32 := Scf.iv c0_i32_57_r0 c1_i32_59_r0 k0_t1
  let c0_i32_99_r0 : BitVec 32 := 0#32
  let v102_r0 : BitVec 1 := Scalar.cmpi .eq arg4_r0 c0_i32_99_r0
  let v150_r0 : BitVec 1 := Scalar.ori v149_r0 v102_r0
  let c0_i32_139_r0 : BitVec 32 := 0#32
  let v151_r0 : BitVec 1 := Scalar.cmpi .sge arg4_r0 c0_i32_139_r0
  let v152_r0 : BitVec 1 := Scalar.andi v150_r0 v151_r0
  let v153_r0 : BitVec 32 := Scalar.extui v152_r0
  let c0_i32_140_r0 : BitVec 32 := 0#32
  let v154_r0 : BitVec 1 := Scalar.cmpi .ne v153_r0 c0_i32_140_r0
  v154_r0

def k0_off16 (arg6_r0 : BitVec 32) : Fin 3 → Nat :=
  let c5_i32_175_r0 : BitVec 32 := 5#32
  let v226_r0 : BitVec 32 := Scalar.remui arg6_r0 c5_i32_175_r0
  let c0_i32_176_r0 : BitVec 32 := 0#32
  let c0_i32_177_r0 : BitVec 32 := 0#32
  ![v226_r0.toNat, 0, 0]
def k0_off17 (arg11_r0 : BitVec 32) : Fin 2 → Nat :=
  let c512_i32_174_r0 : BitVec 32 := 512#32
  let c0_i32_101_r0 : BitVec 32 := 0#32
  let v104_r0 : BitVec 32 := Scalar.addi arg11_r0 c0_i32_101_r0
  let v225_r0 : BitVec 32 := Scalar.muli c512_i32_174_r0 v104_r0
  let c0_i32_178_r0 : BitVec 32 := 0#32
  ![v225_r0.toNat, 0]
def k0_off18 (arg6_r0 : BitVec 32) : Fin 3 → Nat :=
  let c5_i32_143_r0 : BitVec 32 := 5#32
  let v161_r0 : BitVec 32 := Scalar.remui arg6_r0 c5_i32_143_r0
  let v163_r0 : Index := Scalar.indexCast v161_r0
  let c0_r0 : Index := 0#32
  let c0_145_r0 : Index := 0#32
  ![v163_r0.toNat, 0, 0]

def k0_chk2 (arg6_r0 : BitVec 32) : Prop :=
  (∀ a, (k0_off18 arg6_r0) a + S1x512x4096.size a ≤ S5x512x4096.size a)
theorem k0_off18_inb : ∀ (arg6_r0 : BitVec 32) (k0_hw2 : k0_chk2 arg6_r0), ∀ a, (k0_off18 arg6_r0) a + S1x512x4096.size a ≤ S5x512x4096.size a := fun arg6_r0 k0_hw2 => k0_hw2

def k0_off19 (arg9_r0 : BitVec 32) : Fin 3 → Nat :=
  let c2_i32_144_r0 : BitVec 32 := 2#32
  let v162_r0 : BitVec 32 := Scalar.remui arg9_r0 c2_i32_144_r0
  let v181_r0 : Index := Scalar.indexCast v162_r0
  let c0_152_r0 : Index := 0#32
  let c0_153_r0 : Index := 0#32
  ![v181_r0.toNat, 0, 0]

def k0_chk3 (arg9_r0 : BitVec 32) : Prop :=
  (∀ a, (k0_off19 arg9_r0) a + S1x512x64.size a ≤ S2x512x64.size a)
theorem k0_off19_inb : ∀ (arg9_r0 : BitVec 32) (k0_hw3 : k0_chk3 arg9_r0), ∀ a, (k0_off19 arg9_r0) a + S1x512x64.size a ≤ S2x512x64.size a := fun arg9_r0 k0_hw3 => k0_hw3

def k0_off20 (arg9_r0 : BitVec 32) : Fin 1 → Nat :=
  let c2_i32_174_r0 : BitVec 32 := 2#32
  let v225_r0 : BitVec 32 := Scalar.remui arg9_r0 c2_i32_174_r0
  ![v225_r0.toNat]
def k0_cond8 (k0_t1 : Fin k0_t1_loop.trips) (arg11_r0 : BitVec 32) : BitVec 1 :=
  let c0_i32_101_r0 : BitVec 32 := 0#32
  let v104_r0 : BitVec 32 := Scalar.addi arg11_r0 c0_i32_101_r0
  let true_108_r0 : BitVec 1 := 1#1
  let c1_i32_107_r0 : BitVec 32 := 1#32
  let v110_r0 : BitVec 32 := Scalar.addi arg11_r0 c1_i32_107_r0
  let v111_r0 : BitVec 32 := Scalar.select true_108_r0 v110_r0 arg11_r0
  let c64_i32_109_r0 : BitVec 32 := 64#32
  let v112_r0 : BitVec 1 := Scalar.cmpi .eq v111_r0 c64_i32_109_r0
  let c0_i32_110_r0 : BitVec 32 := 0#32
  let v113_r0 : BitVec 32 := Scalar.select v112_r0 c0_i32_110_r0 v111_r0
  let c0_i32_111_r0 : BitVec 32 := 0#32
  let v114_r0 : BitVec 32 := Scalar.addi v113_r0 c0_i32_111_r0
  let v190_r0 : BitVec 1 := Scalar.cmpi .ne v104_r0 v114_r0
  let c0_i32_57_r0 : BitVec 32 := 0#32
  let c1_i32_59_r0 : BitVec 32 := 1#32
  let arg4_r0 : BitVec 32 := Scf.iv c0_i32_57_r0 c1_i32_59_r0 k0_t1
  let c63_i32_100_r0 : BitVec 32 := 63#32
  let v103_r0 : BitVec 1 := Scalar.cmpi .eq arg4_r0 c63_i32_100_r0
  let v191_r0 : BitVec 1 := Scalar.ori v190_r0 v103_r0
  let v192_r0 : BitVec 32 := Scalar.extui v191_r0
  let c0_i32_155_r0 : BitVec 32 := 0#32
  let v193_r0 : BitVec 1 := Scalar.cmpi .ne v192_r0 c0_i32_155_r0
  v193_r0

def k0_off21 (arg11_r0 : BitVec 32) : Fin 2 → Nat :=
  let c512_i32_175_r0 : BitVec 32 := 512#32
  let c0_i32_101_r0 : BitVec 32 := 0#32
  let v104_r0 : BitVec 32 := Scalar.addi arg11_r0 c0_i32_101_r0
  let v226_r0 : BitVec 32 := Scalar.muli c512_i32_175_r0 v104_r0
  let c0_i32_176_r0 : BitVec 32 := 0#32
  ![v226_r0.toNat, 0]
def k0_off22 (arg9_r0 : BitVec 32) : Fin 3 → Nat :=
  let c2_i32_174_r0 : BitVec 32 := 2#32
  let v225_r0 : BitVec 32 := Scalar.remui arg9_r0 c2_i32_174_r0
  let c0_i32_177_r0 : BitVec 32 := 0#32
  let c0_i32_178_r0 : BitVec 32 := 0#32
  ![v225_r0.toNat, 0, 0]
def k0_off23 (arg10_r0 : BitVec 32) : Fin 1 → Nat :=
  let c2_i32_174_r0 : BitVec 32 := 2#32
  let v225_r0 : BitVec 32 := Scalar.remui arg10_r0 c2_i32_174_r0
  ![v225_r0.toNat]
def k0_cond10 (k0_t1 : Fin k0_t1_loop.trips) (arg11_r0 : BitVec 32) : BitVec 1 :=
  let c0_i32_101_r0 : BitVec 32 := 0#32
  let v104_r0 : BitVec 32 := Scalar.addi arg11_r0 c0_i32_101_r0
  let true_103_r0 : BitVec 1 := 1#1
  let c1_i32_102_r0 : BitVec 32 := 1#32
  let v105_r0 : BitVec 32 := Scalar.subi arg11_r0 c1_i32_102_r0
  let v106_r0 : BitVec 32 := Scalar.select true_103_r0 v105_r0 arg11_r0
  let c_m1_i32_104_r0 : BitVec 32 := 4294967295#32
  let v107_r0 : BitVec 1 := Scalar.cmpi .eq v106_r0 c_m1_i32_104_r0
  let c63_i32_105_r0 : BitVec 32 := 63#32
  let v108_r0 : BitVec 32 := Scalar.select v107_r0 c63_i32_105_r0 v106_r0
  let c0_i32_106_r0 : BitVec 32 := 0#32
  let v109_r0 : BitVec 32 := Scalar.addi v108_r0 c0_i32_106_r0
  let v203_r0 : BitVec 1 := Scalar.cmpi .ne v104_r0 v109_r0
  let c0_i32_57_r0 : BitVec 32 := 0#32
  let c1_i32_59_r0 : BitVec 32 := 1#32
  let arg4_r0 : BitVec 32 := Scf.iv c0_i32_57_r0 c1_i32_59_r0 k0_t1
  let c0_i32_99_r0 : BitVec 32 := 0#32
  let v102_r0 : BitVec 1 := Scalar.cmpi .eq arg4_r0 c0_i32_99_r0
  let true_161_r0 : BitVec 1 := 1#1
  let v204_r0 : BitVec 1 := Scalar.xori v102_r0 true_161_r0
  let v205_r0 : BitVec 1 := Scalar.andi v203_r0 v204_r0
  let v206_r0 : BitVec 32 := Scalar.extui v205_r0
  let c0_i32_162_r0 : BitVec 32 := 0#32
  let v207_r0 : BitVec 1 := Scalar.cmpi .ne v206_r0 c0_i32_162_r0
  v207_r0

def k0_off24 (arg11_r0 : BitVec 32) : Fin 2 → Nat :=
  let c512_i32_175_r0 : BitVec 32 := 512#32
  let true_103_r0 : BitVec 1 := 1#1
  let c1_i32_102_r0 : BitVec 32 := 1#32
  let v105_r0 : BitVec 32 := Scalar.subi arg11_r0 c1_i32_102_r0
  let v106_r0 : BitVec 32 := Scalar.select true_103_r0 v105_r0 arg11_r0
  let c_m1_i32_104_r0 : BitVec 32 := 4294967295#32
  let v107_r0 : BitVec 1 := Scalar.cmpi .eq v106_r0 c_m1_i32_104_r0
  let c63_i32_105_r0 : BitVec 32 := 63#32
  let v108_r0 : BitVec 32 := Scalar.select v107_r0 c63_i32_105_r0 v106_r0
  let c0_i32_106_r0 : BitVec 32 := 0#32
  let v109_r0 : BitVec 32 := Scalar.addi v108_r0 c0_i32_106_r0
  let v226_r0 : BitVec 32 := Scalar.muli c512_i32_175_r0 v109_r0
  let c0_i32_176_r0 : BitVec 32 := 0#32
  ![v226_r0.toNat, 0]
def k0_off25 (arg10_r0 : BitVec 32) : Fin 3 → Nat :=
  let c2_i32_174_r0 : BitVec 32 := 2#32
  let v225_r0 : BitVec 32 := Scalar.remui arg10_r0 c2_i32_174_r0
  let c0_i32_177_r0 : BitVec 32 := 0#32
  let c0_i32_178_r0 : BitVec 32 := 0#32
  ![v225_r0.toNat, 0, 0]

def k0_chk1 (k0_t1 : Fin k0_t1_loop.trips) (arg5_r0 : BitVec 32) (arg6_r0 : BitVec 32) (arg9_r0 : BitVec 32) (arg10_r0 : BitVec 32) (arg11_r0 : BitVec 32) : Prop :=
  (∀ (k0_h4 : k0_cond4 k0_t1 arg11_r0 = 1#1), ∀ a, (k0_off12 arg5_r0) a + S1.size a ≤ S5.size a) ∧
  (∀ (k0_h4 : k0_cond4 k0_t1 arg11_r0 = 1#1), ∀ a, (k0_off13 arg5_r0) a + S1x512x4096.size a ≤ S5x512x4096.size a) ∧
  (∀ (k0_h4 : k0_cond4 k0_t1 arg11_r0 = 1#1), ∀ a, (k0_off14 arg11_r0) a + S512x4096.size a ≤ S32768x4096.size a) ∧
  (∀ (k0_h5 : k0_cond5 k0_t1 arg11_r0 = 1#1), ∀ a, (k0_off15 arg6_r0) a + S1.size a ≤ S5.size a) ∧
  (∀ (k0_h5 : k0_cond5 k0_t1 arg11_r0 = 1#1), ∀ a, (k0_off16 arg6_r0) a + S1x512x4096.size a ≤ S5x512x4096.size a) ∧
  (∀ (k0_h5 : k0_cond5 k0_t1 arg11_r0 = 1#1), ∀ a, (k0_off17 arg11_r0) a + S512x4096.size a ≤ S32768x4096.size a) ∧
  (∀ (k0_h8 : k0_cond8 k0_t1 arg11_r0 = 1#1), ∀ a, (k0_off20 arg9_r0) a + S1.size a ≤ S2.size a) ∧
  (∀ (k0_h8 : k0_cond8 k0_t1 arg11_r0 = 1#1), ∀ a, (k0_off21 arg11_r0) a + S512x64.size a ≤ S32768x64.size a) ∧
  (∀ (k0_h8 : k0_cond8 k0_t1 arg11_r0 = 1#1), ∀ a, (k0_off22 arg9_r0) a + S1x512x64.size a ≤ S2x512x64.size a) ∧
  (∀ (k0_h10 : k0_cond10 k0_t1 arg11_r0 = 1#1), ∀ a, (k0_off23 arg10_r0) a + S1.size a ≤ S2.size a) ∧
  (∀ (k0_h10 : k0_cond10 k0_t1 arg11_r0 = 1#1), ∀ a, (k0_off24 arg11_r0) a + S512x64.size a ≤ S32768x64.size a) ∧
  (∀ (k0_h10 : k0_cond10 k0_t1 arg11_r0 = 1#1), ∀ a, (k0_off25 arg10_r0) a + S1x512x64.size a ≤ S2x512x64.size a)
theorem k0_off12_inb : ∀ (k0_t1 : Fin k0_t1_loop.trips) (arg5_r0 : BitVec 32) (arg6_r0 : BitVec 32) (arg9_r0 : BitVec 32) (arg10_r0 : BitVec 32) (arg11_r0 : BitVec 32) (k0_hw1 : k0_chk1 k0_t1 arg5_r0 arg6_r0 arg9_r0 arg10_r0 arg11_r0), ∀ (k0_h4 : k0_cond4 k0_t1 arg11_r0 = 1#1), ∀ a, (k0_off12 arg5_r0) a + S1.size a ≤ S5.size a := fun k0_t1 arg5_r0 arg6_r0 arg9_r0 arg10_r0 arg11_r0 k0_hw1 k0_h4 => k0_hw1.1 k0_h4
theorem k0_off13_inb : ∀ (k0_t1 : Fin k0_t1_loop.trips) (arg5_r0 : BitVec 32) (arg6_r0 : BitVec 32) (arg9_r0 : BitVec 32) (arg10_r0 : BitVec 32) (arg11_r0 : BitVec 32) (k0_hw1 : k0_chk1 k0_t1 arg5_r0 arg6_r0 arg9_r0 arg10_r0 arg11_r0), ∀ (k0_h4 : k0_cond4 k0_t1 arg11_r0 = 1#1), ∀ a, (k0_off13 arg5_r0) a + S1x512x4096.size a ≤ S5x512x4096.size a := fun k0_t1 arg5_r0 arg6_r0 arg9_r0 arg10_r0 arg11_r0 k0_hw1 k0_h4 => k0_hw1.2.1 k0_h4
theorem k0_off14_inb : ∀ (k0_t1 : Fin k0_t1_loop.trips) (arg5_r0 : BitVec 32) (arg6_r0 : BitVec 32) (arg9_r0 : BitVec 32) (arg10_r0 : BitVec 32) (arg11_r0 : BitVec 32) (k0_hw1 : k0_chk1 k0_t1 arg5_r0 arg6_r0 arg9_r0 arg10_r0 arg11_r0), ∀ (k0_h4 : k0_cond4 k0_t1 arg11_r0 = 1#1), ∀ a, (k0_off14 arg11_r0) a + S512x4096.size a ≤ S32768x4096.size a := fun k0_t1 arg5_r0 arg6_r0 arg9_r0 arg10_r0 arg11_r0 k0_hw1 k0_h4 => k0_hw1.2.2.1 k0_h4
theorem k0_off15_inb : ∀ (k0_t1 : Fin k0_t1_loop.trips) (arg5_r0 : BitVec 32) (arg6_r0 : BitVec 32) (arg9_r0 : BitVec 32) (arg10_r0 : BitVec 32) (arg11_r0 : BitVec 32) (k0_hw1 : k0_chk1 k0_t1 arg5_r0 arg6_r0 arg9_r0 arg10_r0 arg11_r0), ∀ (k0_h5 : k0_cond5 k0_t1 arg11_r0 = 1#1), ∀ a, (k0_off15 arg6_r0) a + S1.size a ≤ S5.size a := fun k0_t1 arg5_r0 arg6_r0 arg9_r0 arg10_r0 arg11_r0 k0_hw1 k0_h5 => k0_hw1.2.2.2.1 k0_h5
theorem k0_off16_inb : ∀ (k0_t1 : Fin k0_t1_loop.trips) (arg5_r0 : BitVec 32) (arg6_r0 : BitVec 32) (arg9_r0 : BitVec 32) (arg10_r0 : BitVec 32) (arg11_r0 : BitVec 32) (k0_hw1 : k0_chk1 k0_t1 arg5_r0 arg6_r0 arg9_r0 arg10_r0 arg11_r0), ∀ (k0_h5 : k0_cond5 k0_t1 arg11_r0 = 1#1), ∀ a, (k0_off16 arg6_r0) a + S1x512x4096.size a ≤ S5x512x4096.size a := fun k0_t1 arg5_r0 arg6_r0 arg9_r0 arg10_r0 arg11_r0 k0_hw1 k0_h5 => k0_hw1.2.2.2.2.1 k0_h5
theorem k0_off17_inb : ∀ (k0_t1 : Fin k0_t1_loop.trips) (arg5_r0 : BitVec 32) (arg6_r0 : BitVec 32) (arg9_r0 : BitVec 32) (arg10_r0 : BitVec 32) (arg11_r0 : BitVec 32) (k0_hw1 : k0_chk1 k0_t1 arg5_r0 arg6_r0 arg9_r0 arg10_r0 arg11_r0), ∀ (k0_h5 : k0_cond5 k0_t1 arg11_r0 = 1#1), ∀ a, (k0_off17 arg11_r0) a + S512x4096.size a ≤ S32768x4096.size a := fun k0_t1 arg5_r0 arg6_r0 arg9_r0 arg10_r0 arg11_r0 k0_hw1 k0_h5 => k0_hw1.2.2.2.2.2.1 k0_h5
theorem k0_off20_inb : ∀ (k0_t1 : Fin k0_t1_loop.trips) (arg5_r0 : BitVec 32) (arg6_r0 : BitVec 32) (arg9_r0 : BitVec 32) (arg10_r0 : BitVec 32) (arg11_r0 : BitVec 32) (k0_hw1 : k0_chk1 k0_t1 arg5_r0 arg6_r0 arg9_r0 arg10_r0 arg11_r0), ∀ (k0_h8 : k0_cond8 k0_t1 arg11_r0 = 1#1), ∀ a, (k0_off20 arg9_r0) a + S1.size a ≤ S2.size a := fun k0_t1 arg5_r0 arg6_r0 arg9_r0 arg10_r0 arg11_r0 k0_hw1 k0_h8 => k0_hw1.2.2.2.2.2.2.1 k0_h8
theorem k0_off21_inb : ∀ (k0_t1 : Fin k0_t1_loop.trips) (arg5_r0 : BitVec 32) (arg6_r0 : BitVec 32) (arg9_r0 : BitVec 32) (arg10_r0 : BitVec 32) (arg11_r0 : BitVec 32) (k0_hw1 : k0_chk1 k0_t1 arg5_r0 arg6_r0 arg9_r0 arg10_r0 arg11_r0), ∀ (k0_h8 : k0_cond8 k0_t1 arg11_r0 = 1#1), ∀ a, (k0_off21 arg11_r0) a + S512x64.size a ≤ S32768x64.size a := fun k0_t1 arg5_r0 arg6_r0 arg9_r0 arg10_r0 arg11_r0 k0_hw1 k0_h8 => k0_hw1.2.2.2.2.2.2.2.1 k0_h8
theorem k0_off22_inb : ∀ (k0_t1 : Fin k0_t1_loop.trips) (arg5_r0 : BitVec 32) (arg6_r0 : BitVec 32) (arg9_r0 : BitVec 32) (arg10_r0 : BitVec 32) (arg11_r0 : BitVec 32) (k0_hw1 : k0_chk1 k0_t1 arg5_r0 arg6_r0 arg9_r0 arg10_r0 arg11_r0), ∀ (k0_h8 : k0_cond8 k0_t1 arg11_r0 = 1#1), ∀ a, (k0_off22 arg9_r0) a + S1x512x64.size a ≤ S2x512x64.size a := fun k0_t1 arg5_r0 arg6_r0 arg9_r0 arg10_r0 arg11_r0 k0_hw1 k0_h8 => k0_hw1.2.2.2.2.2.2.2.2.1 k0_h8
theorem k0_off23_inb : ∀ (k0_t1 : Fin k0_t1_loop.trips) (arg5_r0 : BitVec 32) (arg6_r0 : BitVec 32) (arg9_r0 : BitVec 32) (arg10_r0 : BitVec 32) (arg11_r0 : BitVec 32) (k0_hw1 : k0_chk1 k0_t1 arg5_r0 arg6_r0 arg9_r0 arg10_r0 arg11_r0), ∀ (k0_h10 : k0_cond10 k0_t1 arg11_r0 = 1#1), ∀ a, (k0_off23 arg10_r0) a + S1.size a ≤ S2.size a := fun k0_t1 arg5_r0 arg6_r0 arg9_r0 arg10_r0 arg11_r0 k0_hw1 k0_h10 => k0_hw1.2.2.2.2.2.2.2.2.2.1 k0_h10
theorem k0_off24_inb : ∀ (k0_t1 : Fin k0_t1_loop.trips) (arg5_r0 : BitVec 32) (arg6_r0 : BitVec 32) (arg9_r0 : BitVec 32) (arg10_r0 : BitVec 32) (arg11_r0 : BitVec 32) (k0_hw1 : k0_chk1 k0_t1 arg5_r0 arg6_r0 arg9_r0 arg10_r0 arg11_r0), ∀ (k0_h10 : k0_cond10 k0_t1 arg11_r0 = 1#1), ∀ a, (k0_off24 arg11_r0) a + S512x64.size a ≤ S32768x64.size a := fun k0_t1 arg5_r0 arg6_r0 arg9_r0 arg10_r0 arg11_r0 k0_hw1 k0_h10 => k0_hw1.2.2.2.2.2.2.2.2.2.2.1 k0_h10
theorem k0_off25_inb : ∀ (k0_t1 : Fin k0_t1_loop.trips) (arg5_r0 : BitVec 32) (arg6_r0 : BitVec 32) (arg9_r0 : BitVec 32) (arg10_r0 : BitVec 32) (arg11_r0 : BitVec 32) (k0_hw1 : k0_chk1 k0_t1 arg5_r0 arg6_r0 arg9_r0 arg10_r0 arg11_r0), ∀ (k0_h10 : k0_cond10 k0_t1 arg11_r0 = 1#1), ∀ a, (k0_off25 arg10_r0) a + S1x512x64.size a ≤ S2x512x64.size a := fun k0_t1 arg5_r0 arg6_r0 arg9_r0 arg10_r0 arg11_r0 k0_hw1 k0_h10 => k0_hw1.2.2.2.2.2.2.2.2.2.2.2 k0_h10

def k0_off26 (v59_5_r0 : BitVec 32) : Fin 1 → Nat :=
  let c2_i32_r0 : BitVec 32 := 2#32
  let v95_r0 : BitVec 32 := Scalar.remui v59_5_r0 c2_i32_r0
  ![v95_r0.toNat]

def k0_off27 (v59_6_r0 : BitVec 32) : Fin 2 → Nat :=
  let c512_i32_r0 : BitVec 32 := 512#32
  let true_62_r0 : BitVec 1 := 1#1
  let c1_i32_61_r0 : BitVec 32 := 1#32
  let v60_r0 : BitVec 32 := Scalar.subi v59_6_r0 c1_i32_61_r0
  let v61_r0 : BitVec 32 := Scalar.select true_62_r0 v60_r0 v59_6_r0
  let c_m1_i32_63_r0 : BitVec 32 := 4294967295#32
  let v62_r0 : BitVec 1 := Scalar.cmpi .eq v61_r0 c_m1_i32_63_r0
  let c63_i32_64_r0 : BitVec 32 := 63#32
  let v63_r0 : BitVec 32 := Scalar.select v62_r0 c63_i32_64_r0 v61_r0
  let c0_i32_65_r0 : BitVec 32 := 0#32
  let v64_r0 : BitVec 32 := Scalar.addi v63_r0 c0_i32_65_r0
  let v96_r0 : BitVec 32 := Scalar.muli c512_i32_r0 v64_r0
  let c0_i32_96_r0 : BitVec 32 := 0#32
  ![v96_r0.toNat, 0]

def k0_chk5 (v59_6_r0 : BitVec 32) : Prop :=
  (∀ a, (k0_off27 v59_6_r0) a + S512x64.size a ≤ S32768x64.size a)
theorem k0_off27_inb : ∀ (v59_6_r0 : BitVec 32) (k0_hw5 : k0_chk5 v59_6_r0), ∀ a, (k0_off27 v59_6_r0) a + S512x64.size a ≤ S32768x64.size a := fun v59_6_r0 k0_hw5 => k0_hw5

def k0_off28 (v59_5_r0 : BitVec 32) : Fin 3 → Nat :=
  let c2_i32_r0 : BitVec 32 := 2#32
  let v95_r0 : BitVec 32 := Scalar.remui v59_5_r0 c2_i32_r0
  let c0_i32_97_r0 : BitVec 32 := 0#32
  let c0_i32_98_r0 : BitVec 32 := 0#32
  ![v95_r0.toNat, 0, 0]

def k0_chk4 (v59_5_r0 : BitVec 32) : Prop :=
  (∀ a, (k0_off26 v59_5_r0) a + S1.size a ≤ S2.size a) ∧
  (∀ a, (k0_off28 v59_5_r0) a + S1x512x64.size a ≤ S2x512x64.size a)
theorem k0_off26_inb : ∀ (v59_5_r0 : BitVec 32) (k0_hw4 : k0_chk4 v59_5_r0), ∀ a, (k0_off26 v59_5_r0) a + S1.size a ≤ S2.size a := fun v59_5_r0 k0_hw4 => k0_hw4.1
theorem k0_off28_inb : ∀ (v59_5_r0 : BitVec 32) (k0_hw4 : k0_chk4 v59_5_r0), ∀ a, (k0_off28 v59_5_r0) a + S1x512x64.size a ≤ S2x512x64.size a := fun v59_5_r0 k0_hw4 => k0_hw4.2
-- ==== ReferenceIdeal.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩

abbrev nBuf : Space → Nat
  | .hbm => 22
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | .hbm, ⟨8, _⟩ => ⟨S_, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S32768x1, .f32⟩
  | .hbm, ⟨14, _⟩ => ⟨S32768x64, .f32⟩
  | .hbm, ⟨15, _⟩ => ⟨S32768x64, .f32⟩
  | .hbm, ⟨16, _⟩ => ⟨S32768x64, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S32768x64, .f32⟩
  | .hbm, ⟨21, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Names.lean ====
/-
  Canonical names for the pieces of the pipelined call: block `b` of the rows of `x`, slot `s` of the five-deep input
  buffer with its semaphore, block `b` of the rows of the result, slot `s` of the two-deep output buffer with its
  semaphore. The words the loop carries are named by the trip number, and every slice the kernel computes from them is
  shown to be one of the named pieces.
-/
module

public import proofs.«01_k».proof.Defs
public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring.Trips
public import Idealize.ShloMosaic.Lib.Affine
public import Idealize.ShloMosaic.Lib.WordCmp
public import Idealize.ShloMosaic.Lib.Tactic

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The buffers of the call -/

abbrev xM : Memref sig .tc .hbm S32768x4096 .f32 := Memref.whole main_arg0
abbrev wM : Memref sig .tc .hbm S64x4096 .f32 := Memref.whole main_arg1
abbrev bM : Memref sig .tc .hbm S1x64 .f32 := Memref.whole main_v0
abbrev oM : Memref sig .tc .hbm S32768x64 .f32 := Memref.whole main_v1
abbrev xbuf : Memref sig .tc .vmem S5x512x4096 .f32 := Memref.whole cc0_scoped0
abbrev wbuf : Memref sig .tc .vmem S64x4096 .f32 := Memref.whole cc0_scoped2
abbrev bbuf : Memref sig .tc .vmem S1x64 .f32 := Memref.whole cc0_scoped3
abbrev obuf : Memref sig .tc .vmem S2x512x64 .f32 := Memref.whole cc0_scoped4

/-! ## Blocks, slots and cells -/

abbrev xoff (b : Fin 64) : Fin 2 → Nat := ![512 * b.val, 0]
theorem xoff_inb (b : Fin 64) : ∀ a, xoff b a + S512x4096.size a ≤ S32768x4096.size a := by
  have := b.isLt
  intro a; fin_cases a
  · show 512 * b.val + 512 ≤ 32768; omega
  · show 0 + 4096 ≤ 4096; omega
theorem ooff_inb (b : Fin 64) : ∀ a, xoff b a + S512x64.size a ≤ S32768x64.size a := by
  have := b.isLt
  intro a; fin_cases a
  · show 512 * b.val + 512 ≤ 32768; omega
  · show 0 + 64 ≤ 64; omega
abbrev soff {n : ℕ} (s : Fin n) : Fin 3 → Nat := ![s.val, 0, 0]
theorem xsoff_inb (s : Fin 5) : ∀ a, soff s a + S1x512x4096.size a ≤ S5x512x4096.size a := by
  have := s.isLt
  intro a; fin_cases a
  · show s.val + 1 ≤ 5; omega
  · show 0 + 512 ≤ 512; omega
  · show 0 + 4096 ≤ 4096; omega
theorem osoff_inb (s : Fin 2) : ∀ a, soff s a + S1x512x64.size a ≤ S2x512x64.size a := by
  have := s.isLt
  intro a; fin_cases a
  · show s.val + 1 ≤ 2; omega
  · show 0 + 512 ≤ 512; omega
  · show 0 + 64 ≤ 64; omega
abbrev coff {n : ℕ} (s : Fin n) : Fin 1 → Nat := ![s.val]
theorem xcoff_inb (s : Fin 5) : ∀ a, coff s a + S1.size a ≤ S5.size a := by
  have := s.isLt
  intro a; fin_cases a; show s.val + 1 ≤ 5; omega
theorem ocoff_inb (s : Fin 2) : ∀ a, coff s a + S1.size a ≤ S2.size a := by
  have := s.isLt
  intro a; fin_cases a; show s.val + 1 ≤ 2; omega

/-- The `b`-th 512 rows of `x`. -/
def xblk (b : Fin 64) : Memref sig .tc .hbm S512x4096 .f32 :=
  xM.slice (Rect.unit (s := S32768x4096) (xoff b) S512x4096.size (xoff_inb b)) (fun _ => rfl)
/-- Slot `s` of the input buffer. -/
def xslot (s : Fin 5) : Memref sig .tc .vmem S512x4096 .f32 :=
  (xbuf.slice (Rect.unit (s := S5x512x4096) (soff s) S1x512x4096.size (xsoff_inb s)) (fun _ => rfl)).squeeze S512x4096 squeezes_S1x512x4096_S512x4096
/-- The semaphore of slot `s` of the input buffer. -/
def xcell (s : Fin 5) : DmaSems sig S_ :=
  (cc0_scoped1.slice (Rect.unit (s := S5) (coff s) S1.size (xcoff_inb s))).squeeze S_ squeezes_S1_S_
/-- The `b`-th 512 rows of the result. -/
def oblk (b : Fin 64) : Memref sig .tc .hbm S512x64 .f32 :=
  oM.slice (Rect.unit (s := S32768x64) (xoff b) S512x64.size (ooff_inb b)) (fun _ => rfl)
/-- Slot `s` of the output buffer. -/
def oslot (s : Fin 2) : Memref sig .tc .vmem S512x64 .f32 :=
  (obuf.slice (Rect.unit (s := S2x512x64) (soff s) S1x512x64.size (osoff_inb s)) (fun _ => rfl)).squeeze S512x64 squeezes_S1x512x64_S512x64
/-- The semaphore of slot `s` of the output buffer. -/
def ocell (s : Fin 2) : DmaSems sig S_ :=
  (cc0_scoped5.slice (Rect.unit (s := S2) (coff s) S1.size (ocoff_inb s))).squeeze S_ squeezes_S1_S_

instance (s : Fin 5) : ClosedOff (soff s) := ⟨soff s, rfl⟩
instance (s : Fin 2) : ClosedOff (soff s) := ⟨soff s, rfl⟩
instance (b : Fin 64) : ClosedOff (xoff b) := ⟨xoff b, rfl⟩

theorem xcell_congr {off : Fin 1 → Nat} {s : Fin 5} (e : off = coff s) (hh) :
    (cc0_scoped1.slice (Rect.unit (s := S5) off S1.size hh)).squeeze S_ squeezes_S1_S_ = xcell s :=
  congrArg (fun A : DmaSems sig S1 => A.squeeze S_ squeezes_S1_S_) (SemArray.slice_unit_congr _ e _ _)
theorem ocell_congr {off : Fin 1 → Nat} {s : Fin 2} (e : off = coff s) (hh) :
    (cc0_scoped5.slice (Rect.unit (s := S2) off S1.size hh)).squeeze S_ squeezes_S1_S_ = ocell s :=
  congrArg (fun A : DmaSems sig S1 => A.squeeze S_ squeezes_S1_S_) (SemArray.slice_unit_congr _ e _ _)
theorem xslot_congr {off : Fin 3 → Nat} {s : Fin 5} (e : off = soff s) (hh hs) :
    (xbuf.slice (Rect.unit (s := S5x512x4096) off S1x512x4096.size hh) hs).squeeze S512x4096 squeezes_S1x512x4096_S512x4096 = xslot s :=
  congrArg (fun M : Memref sig .tc .vmem S1x512x4096 .f32 => M.squeeze S512x4096 squeezes_S1x512x4096_S512x4096) (Memref.slice_unit_congr _ e _ _ _ _)
theorem oslot_congr {off : Fin 3 → Nat} {s : Fin 2} (e : off = soff s) (hh hs) :
    (obuf.slice (Rect.unit (s := S2x512x64) off S1x512x64.size hh) hs).squeeze S512x64 squeezes_S1x512x64_S512x64 = oslot s :=
  congrArg (fun M : Memref sig .tc .vmem S1x512x64 .f32 => M.squeeze S512x64 squeezes_S1x512x64_S512x64) (Memref.slice_unit_congr _ e _ _ _ _)
theorem xblk_congr {off : Fin 2 → Nat} {b : Fin 64} (e : off = xoff b) (hh hs) :
    xM.slice (Rect.unit (s := S32768x4096) off S512x4096.size hh) hs = xblk b :=
  Memref.slice_unit_congr _ e _ _ _ (fun _ => rfl)
theorem oblk_congr {off : Fin 2 → Nat} {b : Fin 64} (e : off = xoff b) (hh hs) :
    oM.slice (Rect.unit (s := S32768x64) off S512x64.size hh) hs = oblk b :=
  Memref.slice_unit_congr _ e _ _ _ (fun _ => rfl)

/-! ## The carried words by the trip number -/

theorem trips_eq : k0_t1_loop.trips = 64 := by decide

/-- The next block to start, capped at the number of blocks. -/
def w5 (k : ℕ) : BitVec 32 := BitVec.ofNat 32 (min (k + 4) 64)
/-- The number of trips so far. -/
def w6 (k : ℕ) : BitVec 32 := BitVec.ofNat 32 k
/-- The two counters of the operands that never move: one after the last trip. -/
def w7 (k : ℕ) : BitVec 32 := BitVec.ofNat 32 (k / 64)
/-- The number of result blocks waited for. -/
def w10 (k : ℕ) : BitVec 32 := BitVec.ofNat 32 (k - 1)
/-- The grid position, back at zero after the last trip. -/
def w11 (k : ℕ) : BitVec 32 := BitVec.ofNat 32 (k % 64)

/-- The seven carried words before trip `k`. -/
abbrev accAt (k : ℕ) : BitVec 32 × BitVec 32 × BitVec 32 × BitVec 32 × BitVec 32 × BitVec 32 × BitVec 32 :=
  (w5 k, w6 k, w7 k, w7 k, w6 k, w10 k, w11 k)

theorem chk1_at : ∀ k : Fin k0_t1_loop.trips, k0_chk1 k (w5 k.val) (w6 k.val) (w6 k.val) (w10 k.val) (w11 k.val) := by decide +kernel
theorem chk2_at : ∀ k : Fin k0_t1_loop.trips, k0_chk2 (w6 k.val) := by decide +kernel
theorem chk3_at : ∀ k : Fin k0_t1_loop.trips, k0_chk3 (w6 k.val) := by decide +kernel
theorem chk4_end : k0_chk4 (w10 k0_t1_loop.trips) := by decide +kernel
theorem chk5_end : k0_chk5 (w11 k0_t1_loop.trips) := by decide +kernel

theorem cond4_pos : ∀ k : Fin k0_t1_loop.trips, k.val + 4 < 64 → k0_cond4 k (w11 k.val) = 1#1 := by decide +kernel
theorem cond4_neg : ∀ k : Fin k0_t1_loop.trips, ¬ k.val + 4 < 64 → ¬ k0_cond4 k (w11 k.val) = 1#1 := by decide +kernel
theorem cond5_at : ∀ k : Fin k0_t1_loop.trips, k0_cond5 k (w11 k.val) = 1#1 := by decide +kernel
theorem cond8_at : ∀ k : Fin k0_t1_loop.trips, k0_cond8 k (w11 k.val) = 1#1 := by decide +kernel
theorem cond10_pos : ∀ k : Fin k0_t1_loop.trips, 1 ≤ k.val → k0_cond10 k (w11 k.val) = 1#1 := by decide +kernel
theorem cond10_neg : ∀ k : Fin k0_t1_loop.trips, ¬ 1 ≤ k.val → ¬ k0_cond10 k (w11 k.val) = 1#1 := by decide +kernel

/-! ## The offsets the kernel computes from them -/

theorem off12_at : ∀ k : Fin k0_t1_loop.trips, k.val + 4 < 64 → k0_off12 (w5 k.val) = coff (Ring.sl 5 (k.val + 4)) := by decide +kernel
theorem off13_at : ∀ k : Fin k0_t1_loop.trips, k.val + 4 < 64 → k0_off13 (w5 k.val) = soff (Ring.sl 5 (k.val + 4)) := by decide +kernel
theorem off14_at : ∀ k : Fin k0_t1_loop.trips, k.val + 4 < 64 → k0_off14 (w11 k.val) = xoff (Ring.bk 64 (k.val + 4)) := by decide +kernel
theorem off15_at : ∀ k : Fin k0_t1_loop.trips, k0_off15 (w6 k.val) = coff (Ring.sl 5 k.val) := by decide +kernel
theorem off16_at : ∀ k : Fin k0_t1_loop.trips, k0_off16 (w6 k.val) = soff (Ring.sl 5 k.val) := by decide +kernel
theorem off17_at : ∀ k : Fin k0_t1_loop.trips, k0_off17 (w11 k.val) = xoff (Ring.bk 64 k.val) := by decide +kernel
theorem off18_at : ∀ k : Fin k0_t1_loop.trips, k0_off18 (w6 k.val) = soff (Ring.sl 5 k.val) := by decide +kernel
theorem off19_at : ∀ k : Fin k0_t1_loop.trips, k0_off19 (w6 k.val) = soff (Ring.sl 2 k.val) := by decide +kernel
theorem off20_at : ∀ k : Fin k0_t1_loop.trips, k0_off20 (w6 k.val) = coff (Ring.sl 2 k.val) := by decide +kernel
theorem off21_at : ∀ k : Fin k0_t1_loop.trips, k0_off21 (w11 k.val) = xoff (Ring.bk 64 k.val) := by decide +kernel
theorem off22_at : ∀ k : Fin k0_t1_loop.trips, k0_off22 (w6 k.val) = soff (Ring.sl 2 k.val) := by decide +kernel
theorem off23_at : ∀ k : Fin k0_t1_loop.trips, 1 ≤ k.val → k0_off23 (w10 k.val) = coff (Ring.sl 2 (k.val + 1)) := by decide +kernel
theorem off24_at : ∀ k : Fin k0_t1_loop.trips, 1 ≤ k.val → k0_off24 (w11 k.val) = xoff (Ring.bk 64 (k.val - 1)) := by decide +kernel
theorem off25_at : ∀ k : Fin k0_t1_loop.trips, 1 ≤ k.val → k0_off25 (w10 k.val) = soff (Ring.sl 2 (k.val + 1)) := by decide +kernel
theorem off26_end : k0_off26 (w10 k0_t1_loop.trips) = coff (1 : Fin 2) := by decide +kernel
theorem off27_end : k0_off27 (w11 k0_t1_loop.trips) = xoff (63 : Fin 64) := by decide +kernel
theorem off28_end : k0_off28 (w10 k0_t1_loop.trips) = soff (1 : Fin 2) := by decide +kernel

instance (k : Fin k0_t1_loop.trips) : ClosedOff (k0_off18 (w6 k.val)) := ⟨soff (Ring.sl 5 k.val), off18_at k⟩
instance (k : Fin k0_t1_loop.trips) : ClosedOff (k0_off19 (w6 k.val)) := ⟨soff (Ring.sl 2 k.val), off19_at k⟩

/-! ## The kernel's slices are the named pieces -/

section Canon

@[sl_canon] theorem xcell_first (hh) : (cc0_scoped1.slice (Rect.unit (s := S5) k0_off1 S1.size hh)).squeeze S_ squeezes_S1_S_ = xcell 0 := xcell_congr (by decide +kernel) _
@[sl_canon] theorem xslot_first (hh hs) : (xbuf.slice (Rect.unit (s := S5x512x4096) k0_off2 S1x512x4096.size hh) hs).squeeze S512x4096 squeezes_S1x512x4096_S512x4096 = xslot 0 := xslot_congr (by decide +kernel) _ _
@[sl_canon] theorem xblk_first (hh hs) : xM.slice (Rect.unit (s := S32768x4096) ![0, 0] S512x4096.size hh) hs = xblk 0 := xblk_congr (by decide +kernel) _ _
@[sl_canon] theorem xcell_second (hh) : (cc0_scoped1.slice (Rect.unit (s := S5) k0_off3 S1.size hh)).squeeze S_ squeezes_S1_S_ = xcell 1 := xcell_congr (by decide +kernel) _
@[sl_canon] theorem xslot_second (hh hs) : (xbuf.slice (Rect.unit (s := S5x512x4096) k0_off4 S1x512x4096.size hh) hs).squeeze S512x4096 squeezes_S1x512x4096_S512x4096 = xslot 1 := xslot_congr (by decide +kernel) _ _
@[sl_canon] theorem xblk_second (hh hs) : xM.slice (Rect.unit (s := S32768x4096) k0_off5 S512x4096.size hh) hs = xblk 1 := xblk_congr (by decide +kernel) _ _
@[sl_canon] theorem xcell_third (hh) : (cc0_scoped1.slice (Rect.unit (s := S5) k0_off6 S1.size hh)).squeeze S_ squeezes_S1_S_ = xcell 2 := xcell_congr (by decide +kernel) _
@[sl_canon] theorem xslot_third (hh hs) : (xbuf.slice (Rect.unit (s := S5x512x4096) k0_off7 S1x512x4096.size hh) hs).squeeze S512x4096 squeezes_S1x512x4096_S512x4096 = xslot 2 := xslot_congr (by decide +kernel) _ _
@[sl_canon] theorem xblk_third (hh hs) : xM.slice (Rect.unit (s := S32768x4096) k0_off8 S512x4096.size hh) hs = xblk 2 := xblk_congr (by decide +kernel) _ _
@[sl_canon] theorem xcell_fourth (hh) : (cc0_scoped1.slice (Rect.unit (s := S5) k0_off9 S1.size hh)).squeeze S_ squeezes_S1_S_ = xcell 3 := xcell_congr (by decide +kernel) _
@[sl_canon] theorem xslot_fourth (hh hs) : (xbuf.slice (Rect.unit (s := S5x512x4096) k0_off10 S1x512x4096.size hh) hs).squeeze S512x4096 squeezes_S1x512x4096_S512x4096 = xslot 3 := xslot_congr (by decide +kernel) _ _
@[sl_canon] theorem xblk_fourth (hh hs) : xM.slice (Rect.unit (s := S32768x4096) k0_off11 S512x4096.size hh) hs = xblk 3 := xblk_congr (by decide +kernel) _ _

variable (k : Fin k0_t1_loop.trips)

@[sl_canon] theorem xcell_start (hk : k.val + 4 < 64) (hh) : (cc0_scoped1.slice (Rect.unit (s := S5) (k0_off12 (w5 k.val)) S1.size hh)).squeeze S_ squeezes_S1_S_ = xcell (Ring.sl 5 (k.val + 4)) := xcell_congr (off12_at k hk) _
@[sl_canon] theorem xslot_start (hk : k.val + 4 < 64) (hh hs) : (xbuf.slice (Rect.unit (s := S5x512x4096) (k0_off13 (w5 k.val)) S1x512x4096.size hh) hs).squeeze S512x4096 squeezes_S1x512x4096_S512x4096 = xslot (Ring.sl 5 (k.val + 4)) := xslot_congr (off13_at k hk) _ _
@[sl_canon] theorem xblk_start (hk : k.val + 4 < 64) (hh hs) : xM.slice (Rect.unit (s := S32768x4096) (k0_off14 (w11 k.val)) S512x4096.size hh) hs = xblk (Ring.bk 64 (k.val + 4)) := xblk_congr (off14_at k hk) _ _
@[sl_canon] theorem xcell_wait (hh) : (cc0_scoped1.slice (Rect.unit (s := S5) (k0_off15 (w6 k.val)) S1.size hh)).squeeze S_ squeezes_S1_S_ = xcell (Ring.sl 5 k.val) := xcell_congr (off15_at k) _
@[sl_canon] theorem xslot_wait (hh hs) : (xbuf.slice (Rect.unit (s := S5x512x4096) (k0_off16 (w6 k.val)) S1x512x4096.size hh) hs).squeeze S512x4096 squeezes_S1x512x4096_S512x4096 = xslot (Ring.sl 5 k.val) := xslot_congr (off16_at k) _ _
@[sl_canon] theorem xblk_wait (hh hs) : xM.slice (Rect.unit (s := S32768x4096) (k0_off17 (w11 k.val)) S512x4096.size hh) hs = xblk (Ring.bk 64 k.val) := xblk_congr (off17_at k) _ _
@[sl_canon] theorem ocell_start (hh) : (cc0_scoped5.slice (Rect.unit (s := S2) (k0_off20 (w6 k.val)) S1.size hh)).squeeze S_ squeezes_S1_S_ = ocell (Ring.sl 2 k.val) := ocell_congr (off20_at k) _
@[sl_canon] theorem oblk_start (hh hs) : oM.slice (Rect.unit (s := S32768x64) (k0_off21 (w11 k.val)) S512x64.size hh) hs = oblk (Ring.bk 64 k.val) := oblk_congr (off21_at k) _ _
@[sl_canon] theorem oslot_start (hh hs) : (obuf.slice (Rect.unit (s := S2x512x64) (k0_off22 (w6 k.val)) S1x512x64.size hh) hs).squeeze S512x64 squeezes_S1x512x64_S512x64 = oslot (Ring.sl 2 k.val) := oslot_congr (off22_at k) _ _
@[sl_canon] theorem ocell_wait (hk : 1 ≤ k.val) (hh) : (cc0_scoped5.slice (Rect.unit (s := S2) (k0_off23 (w10 k.val)) S1.size hh)).squeeze S_ squeezes_S1_S_ = ocell (Ring.sl 2 (k.val + 1)) := ocell_congr (off23_at k hk) _
@[sl_canon] theorem oblk_wait (hk : 1 ≤ k.val) (hh hs) : oM.slice (Rect.unit (s := S32768x64) (k0_off24 (w11 k.val)) S512x64.size hh) hs = oblk (Ring.bk 64 (k.val - 1)) := oblk_congr (off24_at k hk) _ _
@[sl_canon] theorem oslot_wait (hk : 1 ≤ k.val) (hh hs) : (obuf.slice (Rect.unit (s := S2x512x64) (k0_off25 (w10 k.val)) S1x512x64.size hh) hs).squeeze S512x64 squeezes_S1x512x64_S512x64 = oslot (Ring.sl 2 (k.val + 1)) := oslot_congr (off25_at k hk) _ _

@[sl_canon] theorem ocell_end (hh) : (cc0_scoped5.slice (Rect.unit (s := S2) (k0_off26 (w10 k0_t1_loop.trips)) S1.size hh)).squeeze S_ squeezes_S1_S_ = ocell 1 := ocell_congr off26_end _
@[sl_canon] theorem oblk_end (hh hs) : oM.slice (Rect.unit (s := S32768x64) (k0_off27 (w11 k0_t1_loop.trips)) S512x64.size hh) hs = oblk 63 := oblk_congr off27_end _ _
@[sl_canon] theorem oslot_end (hh hs) : (obuf.slice (Rect.unit (s := S2x512x64) (k0_off28 (w10 k0_t1_loop.trips)) S1x512x64.size hh) hs).squeeze S512x64 squeezes_S1x512x64_S512x64 = oslot 1 := oslot_congr off28_end _ _

end Canon

end Cert.Proof.Stream

end
-- ==== Proof.Pieces.lean ====
/-
  The resources of the call by named piece: a block of `x` at its contents, a slot of a ring free or in flight, and the
  contents of the result. A transfer that delivers block `b` of `x` into a slot leaves the block's rows there; a trip
  computes from them the rows' softmax, and a copy delivers those to block `b` of the result.
-/
module

public import proofs.«01_k».proof.Proof.Names

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra: the launch library's, beside the counters the kernel's own transfers ride on. -/
abbrev UU (nD : Nat) (τ : Topo) : Type := UR sig nD τ × Counters
local notation "𝕄" => MT nD τ sig Unit (Elt F) ℕ (UU nD τ) ℕ
abbrev 𝒱₀ : Variants := Variants.none

variable (c : Dev nD)

/-! ## The input ring -/

section Input

variable (X : Buf (Elt F) (xM.view.loc (c : Thread nD τ)))

abbrev xcellP (s : Fin 5) : sProp 𝕄 := semVal ((c : Thread nD τ), SemLoc.dma (xcell s).sem) 0
abbrev xslotP (s : Fin 5) (f : Buf (Elt F) ((xslot s).view.loc (c : Thread nD τ))) : sProp 𝕄 :=
  (xslot s).view.loc (c : Thread nD τ) ↦[(xslot s).view.set]{fullShare} f
/-- Block `b` of `x`, held at `x`'s contents. -/
abbrev xhomeP (b : Fin 64) : sProp 𝕄 := (xblk b).view.loc (c : Thread nD τ) ↦[(xblk b).view.set]{fullShare} X
/-- The rows of block `b`. -/
abbrev rows (b : Fin 64) : S512x4096.Idx → Elt F .f32 := ReadAs.same.apply ((xblk b).view.read (Elt F) X)
/-- What block `b`'s transfer leaves in slot `s` over prior contents `f`. -/
abbrev xlanded (s : Fin 5) (b : Fin 64) (f : Buf (Elt F) ((xslot s).view.loc (c : Thread nD τ))) : Buf (Elt F) ((xslot s).view.loc (c : Thread nD τ)) :=
  (xslot s).view.writes (Elt F) f [⟨Rect.whole S512x4096, rows c X b⟩]
/-- Slot `s` in flight with block `b`, started over `f`. -/
abbrev xflightP (s : Fin 5) (b : Fin 64) (f : Buf (Elt F) ((xslot s).view.loc (c : Thread nD τ))) : sProp 𝕄 :=
  Transfers.Flight countersEmb (c : Thread nD τ) (SemLoc.dma (xcell s).sem) () 262144 iprop(xslotP c s (xlanded c X s b f) ∗ xhomeP c X b)
/-- Slot `s` free. -/
abbrev xfree (s : Fin 5) : sProp 𝕄 := iprop(xcellP c s ∗ ∃ f, xslotP c s f)
/-- Slot `s` in flight with block `b`, whatever it held. -/
abbrev xinfl (s : Fin 5) (b : Fin 64) : sProp 𝕄 := iprop(∃ f, xflightP c X s b f)

end Input

/-! ## The output ring -/

section Output

abbrev ocellP (s : Fin 2) : sProp 𝕄 := semVal ((c : Thread nD τ), SemLoc.dma (ocell s).sem) 0
abbrev oslotP (s : Fin 2) (f : Buf (Elt F) ((oslot s).view.loc (c : Thread nD τ))) : sProp 𝕄 :=
  (oslot s).view.loc (c : Thread nD τ) ↦[(oslot s).view.set]{fullShare} f
/-- Block `b` of the result, held at `g`. -/
abbrev ohomeP (b : Fin 64) (g : Buf (Elt F) ((oblk b).view.loc (c : Thread nD τ))) : sProp 𝕄 :=
  (oblk b).view.loc (c : Thread nD τ) ↦[(oblk b).view.set]{fullShare} g
abbrev ofree (s : Fin 2) : sProp 𝕄 := iprop(ocellP c s ∗ ∃ f, oslotP c s f)
/-- Slot `s` in flight to block `b`, which the copy leaves at `g`. -/
abbrev oflightP (g : Buf (Elt F) (oM.view.loc (c : Thread nD τ))) (s : Fin 2) (b : Fin 64) (f : Buf (Elt F) ((oslot s).view.loc (c : Thread nD τ))) : sProp 𝕄 :=
  Transfers.Flight countersEmb (c : Thread nD τ) (SemLoc.dma (ocell s).sem) () 8192 iprop(ohomeP c b g ∗ oslotP c s f)
abbrev oinfl (g : Buf (Elt F) (oM.view.loc (c : Thread nD τ))) (s : Fin 2) (b : Fin 64) : sProp 𝕄 := iprop(∃ f, oflightP c g s b f)

end Output

/-! ## The program's loop -/

abbrev tripG (k : Fin k0_t1_loop.trips) (v57 c0 : BitVec 32)
    (acc : BitVec 32 × BitVec 32 × BitVec 32 × BitVec 32 × BitVec 32 × BitVec 32 × BitVec 32) :=
  k0_t1_body (F := F) xM (Memref.isWhole_whole _) wM (Memref.isWhole_whole _) bM (Memref.isWhole_whole _) oM (Memref.isWhole_whole _)
    xbuf (Memref.isWhole_whole _) cc0_scoped1 wbuf (Memref.isWhole_whole _) bbuf (Memref.isWhole_whole _) obuf (Memref.isWhole_whole _)
    cc0_scoped5 cc0_scoped6 cc0_scoped7 v57 c0 k acc

end Cert.Proof.Stream

end
-- ==== Proof.Block.lean ====
/-
  What one trip leaves in its block of the result. The body reads the landed rows of `x` back out of the input slot,
  computes the softmax of their logits, stores it into the output slot and copies the slot to the block: the block then
  holds `soft` of the rows, the weights and the bias. `Gout` is the whole result with every block at that value.
-/
module

public import proofs.«01_k».proof.Proof.Pieces
public import Idealize.ShloMosaic.Lib.ViewIndex
public import Idealize.ShloMosaic.Lib.VecWindow
public import Idealize.ShloMosaic.Lib.Pipeline.Value

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## Reading and writing a slot -/

/-- A load of slot `s` out of the whole input buffer, as the body reshapes it, reads the slot. -/
theorem load_slot (s : Fin 5) {off : Fin 3 → ℕ} (h : off = soff s) (inb : ∀ a, off a + S1x512x4096.size a ≤ S5x512x4096.size a)
    (g : xbuf.view.ty.Contents (Elt F)) :
    shapeCast S512x4096 (xbuf.view.readAt (Elt F) (Rect.unit (s := S5x512x4096) off S1x512x4096.size inb).toLoadRect g) shapeCasts_S1x512x4096_S512x4096
      = (xslot s).view.read (Elt F) g := by
  subst h; rfl

/-- Slot `s` of the output buffer reads the slot's plane of the whole buffer, reshaped. -/
theorem read_slot (s : Fin 2) (g : obuf.view.ty.Contents (Elt F)) (hc : S1x512x64.ShapeCasts S512x64) :
    (oslot s).view.read (Elt F) g
      = shapeCast S512x64 ((obuf.access (Rect.unit (s := S2x512x64) (soff s) S1x512x64.size (osoff_inb s))).read (Elt F) g) hc := rfl

/-- A store of `v` at slot `s` of the whole output buffer leaves `v`, reshaped, in the slot. -/
theorem store_slot (s : Fin 2) {off : Fin 3 → ℕ} (h : off = soff s) (inb : ∀ a, off a + S1x512x64.size a ≤ S2x512x64.size a)
    (g : obuf.view.ty.Contents (Elt F)) (v : S1x512x64.Idx → Elt F .f32) (hc : S1x512x64.ShapeCasts S512x64) :
    (oslot s).view.read (Elt F) ((obuf.access (Rect.unit (s := S2x512x64) off S1x512x64.size inb)).write (Elt F) g v Finset.univ)
      = shapeCast S512x64 v hc := by
  subst h
  refine (read_slot s _ hc).trans ?_
  rw [View.read_write_univ]

/-! ## The value of a block -/

theorem casts_back : S1x512x64.ShapeCasts S512x64 := by decide +kernel

/-- The softmax of the logits of 512 rows, as the body computes it. -/
def soft (r : S512x4096.Idx → Elt F .f32) (w : S64x4096.Idx → Elt F .f32) (b : S1x64.Idx → Elt F .f32) : S512x64.Idx → Elt F .f32 :=
  shapeCast S512x64 (k0_pay2 r w b) casts_back

variable (c : Dev nD) (X : Buf (Elt F) (xM.view.loc (c : Thread nD τ)))
  (fW : Buf (Elt F) (wbuf.view.loc (c : Thread nD τ))) (fB : Buf (Elt F) (bbuf.view.loc (c : Thread nD τ)))

/-- The payload of trip `k`'s copy out. -/
theorem payload_eq (k : Fin k0_t1_loop.trips) (i18 : ∀ a, k0_off18 (w6 k.val) a + S1x512x4096.size a ≤ S5x512x4096.size a)
    (i19 : ∀ a, k0_off19 (w6 k.val) a + S1x512x64.size a ≤ S2x512x64.size a) (g : obuf.view.ty.Contents (Elt F))
    (f : (xslot (Ring.sl 5 k.val)).view.ty.Contents (Elt F)) (r : S512x4096.Idx → Elt F .f32) :
    ReadAs.same.apply ((oslot (Ring.sl 2 k.val)).view.read (Elt F)
      ((obuf.access (Rect.unit (s := S2x512x64) (k0_off19 (w6 k.val)) S1x512x64.size i19)).write (Elt F) g
        (k0_pay2
          (shapeCast S512x4096
            (xbuf.view.readAt (Elt F) (Rect.unit (s := S5x512x4096) (k0_off18 (w6 k.val)) S1x512x4096.size i18).toLoadRect
              ((xslot (Ring.sl 5 k.val)).view.writes (Elt F) f [⟨Rect.whole S512x4096, r⟩]))
            shapeCasts_S1x512x4096_S512x4096)
          (wbuf.view.readAt (Elt F) (Rect.unit (s := S64x4096) ![0, 0] S64x4096.size inb_S64x4096_S64x4096_0_0).toLoadRect fW)
          (bbuf.view.readAt (Elt F) (Rect.unit (s := S1x64) ![0, 0] S1x64.size inb_S1x64_S1x64_0_0).toLoadRect fB))
        Finset.univ))
      = soft r fW fB := by
  have z : (![0, 0] : Fin 2 → ℕ) = fun _ => 0 := funext fun a => by fin_cases a <;> rfl
  have ew : wbuf.view.readAt (Elt F) (Rect.unit (s := S64x4096) ![0, 0] S64x4096.size inb_S64x4096_S64x4096_0_0).toLoadRect fW = fW :=
    Memref.readAt_unit_zero (Elt F) cc0_scoped2 z _ fW
  have eb : bbuf.view.readAt (Elt F) (Rect.unit (s := S1x64) ![0, 0] S1x64.size inb_S1x64_S1x64_0_0).toLoadRect fB = fB :=
    Memref.readAt_unit_zero (Elt F) cc0_scoped3 z _ fB
  have ex : shapeCast S512x4096
      (xbuf.view.readAt (Elt F) (Rect.unit (s := S5x512x4096) (k0_off18 (w6 k.val)) S1x512x4096.size i18).toLoadRect
        ((xslot (Ring.sl 5 k.val)).view.writes (Elt F) f [⟨Rect.whole S512x4096, r⟩]))
      shapeCasts_S1x512x4096_S512x4096 = r :=
    (load_slot (Ring.sl 5 k.val) (off18_at k) i18 _).trans (View.read_writes_whole _ f r)
  rw [ew, eb, ex]
  exact store_slot (Ring.sl 2 k.val) (off19_at k) i19 g _ casts_back

/-! ## The result -/

/-- The block a row of the result lies in. -/
def rowBlk (i : S32768x64.Idx) : Fin 64 := ⟨(i 0).val / 512, by have h : (i 0).val < 32768 := (i 0).isLt; omega⟩
/-- The place of an element of the result in its block. -/
def rowIn (i : S32768x64.Idx) : S512x64.Idx := fun a => match a with
  | ⟨0, _⟩ => ⟨(i 0).val % 512, Nat.mod_lt _ (by decide)⟩
  | ⟨1, _⟩ => ⟨(i 1).val, (i 1).isLt⟩

/-- The whole result: every block at the softmax of its rows. -/
def Gout : Buf (Elt F) (oM.view.loc (c : Thread nD τ)) :=
  fun (i : S32768x64.Idx) => soft (rows c X (rowBlk i)) fW fB (rowIn i)

theorem rowBlk_emb (b : Fin 64) (x : S512x64.Idx) : rowBlk ((oblk b).view.emb x) = b := by
  have h0 : (x 0).val < 512 := (x 0).isLt
  apply Fin.ext
  show (512 * b.val + 1 * (x 0).val) / 512 = b.val
  omega
theorem rowIn_emb (b : Fin 64) (x : S512x64.Idx) : rowIn ((oblk b).view.emb x) = x := by
  have h0 : (x 0).val < 512 := (x 0).isLt
  funext a
  match a with
  | ⟨0, _⟩ => exact Fin.ext (show (512 * b.val + 1 * (x 0).val) % 512 = (x 0).val by omega)
  | ⟨1, _⟩ => exact Fin.ext (show 0 + 1 * (x 1).val = (x 1).val by omega)

/-- Block `b` of the result holds the softmax of `x`'s block `b`. -/
theorem Gout_blk (b : Fin 64) : (oblk b).view.read (Elt F) (Gout c X fW fB) = soft (rows c X b) fW fB := by
  funext x
  show soft (rows c X (rowBlk ((oblk b).view.emb x))) fW fB (rowIn ((oblk b).view.emb x)) = _
  rw [rowBlk_emb, rowIn_emb]

/-- What the copy of that value leaves in the block is the result's. -/
theorem home_at_Gout (b : Fin 64) (g : Buf (Elt F) ((oblk b).view.loc (c : Thread nD τ))) {p : S512x64.Idx → Elt F .f32} (hp : p = soft (rows c X b) fW fB) :
    (ohomeP c b ((oblk b).view.writes (Elt F) g [⟨Rect.whole S512x64, p⟩]) : sProp 𝕄) = ohomeP c b (Gout c X fW fB) := by
  refine pointsTo_congr fun i hi => ?_
  obtain ⟨x, -, rfl⟩ := Finset.mem_map.mp hi
  refine View.eq_of_read_eq (v := (oblk b).view) (x := x) ?_
  rw [Gout_blk, View.read_writes_whole, hp]

end Cert.Proof.Stream

end
-- ==== Proof.Trip.lean ====
/-
  One trip of the loop. Before trip `k` the blocks `k`, …, `k + 3` of `x` are on their way into the slots `k`, …, `k + 3`
  of the input ring, slot `k + 4` is free; the output ring has slot `k` free and, from the second trip on, slot `k + 1` on
  its way to block `k - 1` of the result. A trip starts block `k + 4` (while there is one), waits for block `k`, computes
  the block of the result, starts its copy and waits for the copy before.
-/
module

public import proofs.«01_k».proof.Proof.Block
public import Idealize.ShloMosaic.Lib.Ring.WriteBehind

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD) (X : Buf (Elt F) (xM.view.loc (c : Thread nD τ)))
  (fW : Buf (Elt F) (wbuf.view.loc (c : Thread nD τ))) (fB : Buf (Elt F) (bbuf.view.loc (c : Thread nD τ)))

/-! ## The resources before a trip -/

/-- The weights and the bias in their buffers. -/
abbrev constsP : sProp 𝕄 :=
  iprop((wbuf.view.loc (c : Thread nD τ) ↦[Finset.univ]{fullShare} fW) ∗ (bbuf.view.loc (c : Thread nD τ) ↦[Finset.univ]{fullShare} fB))

/-- The slot `j` ahead of block `k`: in flight with block `k + j`, or free past the last block. -/
abbrev inRole (k j : ℕ) : sProp 𝕄 := Ring.roleAt (NB := 64) (xfree c (Ring.sl 5 (k + j))) (xinfl c X (Ring.sl 5 (k + j))) (k + j)

/-- The input ring before trip `k`. -/
abbrev inRing (k : ℕ) : sProp 𝕄 :=
  iprop(bigSep (Ring.homeSet 4 k) (xhomeP c X) ∗ inRole c X k 0 ∗ inRole c X k 1 ∗ inRole c X k 2 ∗ inRole c X k 3
    ∗ xfree c (Ring.sl 5 (k + 4)))

/-- Block `b` of the result, held at the result. -/
abbrev doneP (b : Fin 64) : sProp 𝕄 := ohomeP c b (Gout c X fW fB)

/-- The output slot the trip before used: in flight with its block, or free before the first trip. -/
abbrev outRole (k : ℕ) : sProp 𝕄 :=
  Ring.roleBAt (NB := 64) 1 (ofree c (Ring.sl 2 (k + 1))) (oinfl c (Gout c X fW fB) (Ring.sl 2 (k + 1))) k

/-- The output ring before trip `k`: the blocks not yet written at anything, the blocks written at the result. -/
abbrev outRing (k : ℕ) : sProp 𝕄 :=
  iprop(ofree c (Ring.sl 2 k) ∗ outRole c X fW fB k
    ∗ bigSep (Ring.aheadSet k) (fun b => iprop(∃ g, ohomeP c b g)) ∗ bigSep (Ring.behindSet 1 k) (doneP c X fW fB))

/-- Everything before trip `k`. -/
def resAt (k : ℕ) : sProp 𝕄 :=
  iprop(inRing c X k ∗ constsP c fW fB ∗ outRing c X fW fB k ∗ ∃ W, owes (c : Thread nD τ) 0 W)

/-! ## Opening the resources before a trip, closing them after it -/

theorem bigSep_put {I : Type} [DecidableEq I] {s : Finset I} {i : I} (h : i ∉ s) (Φ : I → sProp 𝕄) :
    bigSep (insert i s) Φ = iprop(Φ i ∗ bigSep s Φ) := bigSep_insert h

section InRing
variable (k : ℕ)

theorem inRole_lt {j : ℕ} (h : k + j < 64) : inRole c X k j = xinfl c X (Ring.sl 5 (k + j)) (Ring.bk 64 (k + j)) := Ring.roleAt_of_lt _ _ _ h
theorem inRole_ge {j : ℕ} (h : 64 ≤ k + j) : inRole c X k j = xfree c (Ring.sl 5 (k + j)) := Ring.roleAt_of_le _ _ _ h
theorem inRole_shift (j : ℕ) : inRole c X k (j + 1) = inRole c X (k + 1) j := by
  show Ring.roleAt _ _ _ = Ring.roleAt _ _ _
  rw [show k + (j + 1) = k + 1 + j by omega]

/-- While blocks remain: block `k + 4` is home and goes out. -/
theorem inRing_open (h : k + 4 < 64) :
    inRing c X k ⊢ iprop(xhomeP c X (Ring.bk 64 (k + 4)) ∗ xinfl c X (Ring.sl 5 k) (Ring.bk 64 k) ∗ xfree c (Ring.sl 5 (k + 4))
      ∗ (bigSep ((Ring.homeSet 4 k).erase (Ring.bk 64 (k + 4))) (xhomeP c X) ∗ inRole c X (k + 1) 0 ∗ inRole c X (k + 1) 1 ∗ inRole c X (k + 1) 2)) := by
  have e : bigSep (Ring.homeSet 4 k) (xhomeP c X) = iprop(xhomeP c X (Ring.bk 64 (k + 4)) ∗ bigSep ((Ring.homeSet 4 k).erase (Ring.bk 64 (k + 4))) (xhomeP c X)) :=
    (congrArg (fun s => bigSep s (xhomeP c X)) (Ring.homeSet_out (NB := 64) 4 k h)).trans (bigSep_put (Ring.bkL_not_mem_erase 4 k) _)
  unfold inRing
  rw [e, inRole_lt c X k (j := 0) (by omega), inRole_shift c X k 0, inRole_shift c X k 1, inRole_shift c X k 2]
  iintro ⟨⟨H4, Hh⟩, H0, H1, H2, H3, Hf⟩
  isplitl [H4]; · iexact H4
  isplitl [H0]; · iexact H0
  isplitl [Hf]; · iexact Hf
  isplitl [Hh]; · iexact Hh
  isplitl [H1]; · iexact H1
  isplitl [H2]; · iexact H2
  iexact H3

/-- and the ring before the next trip has block `k` home, block `k + 4` in flight, slot `k` free. -/
theorem inRing_close (h : k + 4 < 64) :
    iprop(xhomeP c X (Ring.bk 64 k) ∗ xfree c (Ring.sl 5 k) ∗ xinfl c X (Ring.sl 5 (k + 4)) (Ring.bk 64 (k + 4))
      ∗ (bigSep ((Ring.homeSet 4 k).erase (Ring.bk 64 (k + 4))) (xhomeP c X) ∗ inRole c X (k + 1) 0 ∗ inRole c X (k + 1) 1 ∗ inRole c X (k + 1) 2))
      ⊢ inRing c X (k + 1) := by
  unfold inRing
  rw [Ring.homeSet_succ (NB := 64) 4 k h, bigSep_put (Ring.bk_not_mem_erase 4 k (by omega) (by decide)), ← inRole_shift c X k 3, inRole_lt c X k (j := 3 + 1) (by omega),
    Ring.sl_succ_add 5 k 4 rfl]
  iintro ⟨Hk, Hf, H4, Hh, H1, H2, H3⟩
  isplitl [Hk Hh]
  · isplitl [Hk]; · iexact Hk
    iexact Hh
  isplitl [H1]; · iexact H1
  isplitl [H2]; · iexact H2
  isplitl [H3]; · iexact H3
  isplitl [H4]; · iexact H4
  iexact Hf

/-- Past the last start: nothing goes out. -/
theorem inRing_open_tail (h : 64 ≤ k + 4) (hk : k < 64) :
    inRing c X k ⊢ iprop(xinfl c X (Ring.sl 5 k) (Ring.bk 64 k)
      ∗ (bigSep (Ring.homeSet 4 k) (xhomeP c X) ∗ inRole c X (k + 1) 0 ∗ inRole c X (k + 1) 1 ∗ inRole c X (k + 1) 2 ∗ xfree c (Ring.sl 5 (k + 4)))) := by
  unfold inRing
  rw [inRole_lt c X k (j := 0) (by omega), inRole_shift c X k 0, inRole_shift c X k 1, inRole_shift c X k 2]
  iintro ⟨Hh, H0, H1, H2, H3, Hf⟩
  isplitl [H0]; · iexact H0
  isplitl [Hh]; · iexact Hh
  isplitl [H1]; · iexact H1
  isplitl [H2]; · iexact H2
  isplitl [H3]; · iexact H3
  iexact Hf

theorem inRing_close_tail (h : 64 ≤ k + 4) (hk : k < 64) :
    iprop(xhomeP c X (Ring.bk 64 k) ∗ xfree c (Ring.sl 5 k)
      ∗ (bigSep (Ring.homeSet 4 k) (xhomeP c X) ∗ inRole c X (k + 1) 0 ∗ inRole c X (k + 1) 1 ∗ inRole c X (k + 1) 2 ∗ xfree c (Ring.sl 5 (k + 4))))
      ⊢ inRing c X (k + 1) := by
  unfold inRing
  rw [Ring.homeSet_succ_tail (NB := 64) 4 k h hk, bigSep_put (Ring.bk_not_mem_homeSet 4 k hk (by decide)), ← inRole_shift c X k 3, inRole_ge c X k (j := 3 + 1) (by omega),
    Ring.sl_succ_add 5 k 4 rfl]
  iintro ⟨Hk, Hf, Hh, H1, H2, H3, H4⟩
  isplitl [Hk Hh]
  · isplitl [Hk]; · iexact Hk
    iexact Hh
  isplitl [H1]; · iexact H1
  isplitl [H2]; · iexact H2
  isplitl [H3]; · iexact H3
  isplitl [H4]; · iexact H4
  iexact Hf

end InRing

section OutRing
variable (k : ℕ)

/-- What trip `k` leaves of the output ring, the block before not yet waited for: slot `k` in flight with block `k`. -/
theorem outRole_next (hk : k < 64) : outRole c X fW fB (k + 1) = oinfl c (Gout c X fW fB) (Ring.sl 2 k) (Ring.bk 64 k) := by
  show Ring.roleBAt 1 _ _ (k + 1) = _
  rw [Ring.roleBAt_of_le 1 _ _ (k + 1) (by omega), Ring.sl_succ_add 2 k 1 rfl]; rfl

theorem outRing_open (h1 : 1 ≤ k) (hk : k < 64) :
    outRing c X fW fB k ⊢ iprop(ofree c (Ring.sl 2 k) ∗ oinfl c (Gout c X fW fB) (Ring.sl 2 (k + 1)) (Ring.bk 64 (k - 1)) ∗ (∃ g, ohomeP c (Ring.bk 64 k) g)
      ∗ (bigSep (Ring.aheadSet (k + 1)) (fun b => iprop(∃ g, ohomeP c b g)) ∗ bigSep (Ring.behindSet 1 k) (doneP c X fW fB))) := by
  unfold outRing
  rw [Ring.aheadSet_open k hk, bigSep_put (Ring.bk_not_mem_aheadSet_succ k hk)]
  unfold outRole
  rw [Ring.roleBAt_of_le 1 _ _ k h1]
  iintro ⟨Hf, Hr, ⟨Ho, Ha⟩, Hb⟩
  isplitl [Hf]; · iexact Hf
  isplitl [Hr]; · iexact Hr
  isplitl [Ho]; · iexact Ho
  isplitl [Ha]; · iexact Ha
  iexact Hb

theorem outRing_open_first (h : k = 0) :
    outRing c X fW fB k ⊢ iprop(ofree c (Ring.sl 2 k) ∗ ofree c (Ring.sl 2 (k + 1)) ∗ (∃ g, ohomeP c (Ring.bk 64 k) g)
      ∗ bigSep (Ring.aheadSet (k + 1)) (fun b => iprop(∃ g, ohomeP c b g))) := by
  subst h
  unfold outRing
  rw [Ring.aheadSet_open 0 (by decide), bigSep_put (Ring.bk_not_mem_aheadSet_succ 0 (by decide))]
  unfold outRole
  rw [Ring.roleBAt_of_lt 1 _ _ 0 (by decide)]
  iintro ⟨Hf, Hr, ⟨Ho, Ha⟩, -⟩
  isplitl [Hf]; · iexact Hf
  isplitl [Hr]; · iexact Hr
  isplitl [Ho]; · iexact Ho
  iexact Ha

theorem outRing_close (h1 : 1 ≤ k) (hk : k < 64) :
    iprop(ofree c (Ring.sl 2 (k + 1)) ∗ oinfl c (Gout c X fW fB) (Ring.sl 2 k) (Ring.bk 64 k) ∗ doneP c X fW fB (Ring.bk 64 (k - 1))
      ∗ (bigSep (Ring.aheadSet (k + 1)) (fun b => iprop(∃ g, ohomeP c b g)) ∗ bigSep (Ring.behindSet 1 k) (doneP c X fW fB)))
      ⊢ outRing c X fW fB (k + 1) := by
  unfold outRing
  rw [outRole_next c X fW fB k hk, Ring.behindSet_close 1 k h1 hk, bigSep_put (Ring.bk_not_mem_behindSet 1 k h1 hk)]
  iintro ⟨Hf, Hr, Ho, Ha, Hb⟩
  isplitl [Hf]; · iexact Hf
  isplitl [Hr]; · iexact Hr
  isplitl [Ha]; · iexact Ha
  isplitl [Ho]; · iexact Ho
  iexact Hb

theorem outRing_close_first (h : k = 0) :
    iprop(ofree c (Ring.sl 2 (k + 1)) ∗ oinfl c (Gout c X fW fB) (Ring.sl 2 k) (Ring.bk 64 k) ∗ bigSep (Ring.aheadSet (k + 1)) (fun b => iprop(∃ g, ohomeP c b g)))
      ⊢ outRing c X fW fB (k + 1) := by
  subst h
  unfold outRing
  rw [outRole_next c X fW fB 0 (by decide), Ring.behindSet_boot (NB := 64) (d := 1) (0 + 1) (by decide), bigSep_empty]
  iintro ⟨Hf, Hr, Ha⟩
  isplitl [Hf]; · iexact Hf
  isplitl [Hr]; · iexact Hr
  isplitl [Ha]; · iexact Ha
  iempintro

end OutRing

/-- A copy out started by trip `k`, its delivery restated at the result. -/
theorem flight_at_Gout (s : Fin 2) (b : Fin 64) (g : Buf (Elt F) ((oblk b).view.loc (c : Thread nD τ))) (f : Buf (Elt F) ((oslot s).view.loc (c : Thread nD τ)))
    {p : S512x64.Idx → Elt F .f32} (hp : p = soft (rows c X b) fW fB) :
    (Transfers.Flight countersEmb (c : Thread nD τ) (SemLoc.dma (ocell s).sem) () 8192
        iprop(ohomeP c b ((oblk b).view.writes (Elt F) g [⟨Rect.whole S512x64, p⟩]) ∗ oslotP c s f) : sProp 𝕄)
      ⊢ oinfl c (Gout c X fW fB) s b := by
  rw [home_at_Gout c X fW fB b g hp]
  iintro H; iexists f; iexact H

/-! ## The three kinds of trip -/

/-- A trip with a block to start and a copy to wait for. -/
theorem trip_mid (k : Fin k0_t1_loop.trips) (v57 c0 : BitVec 32) (h1 : 1 ≤ k.val) (h4 : k.val + 4 < 64) :
    resAt c X fW fB k.val ⊢ wp frame (wpE (defs₀ (F := F)) 𝒱₀ (c : Thread nD τ) none) Set.univ (tripG k v57 c0 (accAt k.val))
      (fun a => iprop(⌜a = accAt (k.val + 1)⌝ ∗ resAt c X fW fB (k.val + 1))) := by
  have hc1 := chk1_at k
  have hc2 := chk2_at k
  have hc3 := chk3_at k
  have hC4 := cond4_pos k h4
  have hC5 := cond5_at k
  have hC8 := cond8_at k
  have hC10 := cond10_pos k h1
  unfold resAt
  iintro ⟨Hin, ⟨HWb, HBb⟩, Hout, ⟨%W, HW⟩⟩
  ihave Hin' := (inRing_open c X k.val h4) $$ Hin
  icases Hin' with ⟨Hx4, ⟨%f0, HF⟩, ⟨Hc4, ⟨%f4, Hs4⟩⟩, Hir⟩
  ihave Hout' := (outRing_open c X fW fB k.val h1 (by omega)) $$ Hout
  icases Hout' with ⟨⟨Hco, ⟨%fo, Hso⟩⟩, ⟨%fo1, HFo⟩, ⟨%gg, Ho⟩, Hor⟩
  unfold tripG accAt
  sl_unfold [k0_t1_body]
  sl_exec
  sl_step
  isplitr
  · ipureintro; simp only [Prod.mk.injEq]; clear * -; revert k; decide +kernel
  isplitl [HF_src HF HF_dst Hc4 Hir]
  · iapply (inRing_close c X k.val h4)
    isplitl [HF_src]; · iexact HF_src
    isplitl [HF HF_dst]
    · isplitl [HF]; · iexact HF
      iexists _; iexact HF_dst
    isplitl [Hc4]; · iexists f4; iexact Hc4
    iexact Hir
  isplitl [HWb HBb]
  · isplitl [HWb]; · iexact HWb
    iexact HBb
  isplitl [HFo HFo_src HFo_dst Hco Hor]
  · iapply (outRing_close c X fW fB k.val h1 (by omega))
    isplitl [HFo HFo_src]
    · isplitl [HFo]; · iexact HFo
      iexists _; iexact HFo_src
    isplitl [Hco]
    · iapply (flight_at_Gout c X fW fB (Ring.sl 2 k.val) (Ring.bk 64 k.val) gg _ (payload_eq c fW fB k _ _ fo _ _)); iexact Hco
    isplitl [HFo_dst]; · iexact HFo_dst
    iexact Hor
  iexists _; iexact HW

/-- The first trip: no copy is in flight. -/
theorem trip_first (k : Fin k0_t1_loop.trips) (v57 c0 : BitVec 32) (h0 : k.val = 0) :
    resAt c X fW fB k.val ⊢ wp frame (wpE (defs₀ (F := F)) 𝒱₀ (c : Thread nD τ) none) Set.univ (tripG k v57 c0 (accAt k.val))
      (fun a => iprop(⌜a = accAt (k.val + 1)⌝ ∗ resAt c X fW fB (k.val + 1))) := by
  have hc1 := chk1_at k
  have hc2 := chk2_at k
  have hc3 := chk3_at k
  have h4 : k.val + 4 < 64 := by omega
  have hC4 := cond4_pos k h4
  have hC5 := cond5_at k
  have hC8 := cond8_at k
  have hC10 := cond10_neg k (by omega)
  unfold resAt
  iintro ⟨Hin, ⟨HWb, HBb⟩, Hout, ⟨%W, HW⟩⟩
  ihave Hin' := (inRing_open c X k.val h4) $$ Hin
  icases Hin' with ⟨Hx4, ⟨%f0, HF⟩, ⟨Hc4, ⟨%f4, Hs4⟩⟩, Hir⟩
  ihave Hout' := (outRing_open_first c X fW fB k.val h0) $$ Hout
  icases Hout' with ⟨⟨Hco, ⟨%fo, Hso⟩⟩, Hf1, ⟨%gg, Ho⟩, Hor⟩
  unfold tripG accAt
  sl_unfold [k0_t1_body]
  sl_exec
  sl_step
  isplitr
  · ipureintro; simp only [Prod.mk.injEq]; clear * -; revert k; decide +kernel
  isplitl [HF_src HF HF_dst Hc4 Hir]
  · iapply (inRing_close c X k.val h4)
    isplitl [HF_src]; · iexact HF_src
    isplitl [HF HF_dst]
    · isplitl [HF]; · iexact HF
      iexists _; iexact HF_dst
    isplitl [Hc4]; · iexists f4; iexact Hc4
    iexact Hir
  isplitl [HWb HBb]
  · isplitl [HWb]; · iexact HWb
    iexact HBb
  isplitl [Hf1 Hco Hor]
  · iapply (outRing_close_first c X fW fB k.val h0)
    isplitl [Hf1]; · iexact Hf1
    isplitl [Hco]
    · iapply (flight_at_Gout c X fW fB (Ring.sl 2 k.val) (Ring.bk 64 k.val) gg _ (payload_eq c fW fB k _ _ fo _ _)); iexact Hco
    iexact Hor
  iexists _; iexact HW

/-- A trip after the last start. -/
theorem trip_tail (k : Fin k0_t1_loop.trips) (v57 c0 : BitVec 32) (h4 : 64 ≤ k.val + 4) :
    resAt c X fW fB k.val ⊢ wp frame (wpE (defs₀ (F := F)) 𝒱₀ (c : Thread nD τ) none) Set.univ (tripG k v57 c0 (accAt k.val))
      (fun a => iprop(⌜a = accAt (k.val + 1)⌝ ∗ resAt c X fW fB (k.val + 1))) := by
  have hc1 := chk1_at k
  have hc2 := chk2_at k
  have hc3 := chk3_at k
  have hk : k.val < 64 := lt_of_lt_of_eq k.isLt trips_eq
  have h1 : 1 ≤ k.val := by omega
  have hC4 := cond4_neg k (by omega)
  have hC5 := cond5_at k
  have hC8 := cond8_at k
  have hC10 := cond10_pos k h1
  unfold resAt
  iintro ⟨Hin, ⟨HWb, HBb⟩, Hout, ⟨%W, HW⟩⟩
  ihave Hin' := (inRing_open_tail c X k.val h4 hk) $$ Hin
  icases Hin' with ⟨⟨%f0, HF⟩, Hir⟩
  ihave Hout' := (outRing_open c X fW fB k.val h1 (by omega)) $$ Hout
  icases Hout' with ⟨⟨Hco, ⟨%fo, Hso⟩⟩, ⟨%fo1, HFo⟩, ⟨%gg, Ho⟩, Hor⟩
  unfold tripG accAt
  sl_unfold [k0_t1_body]
  sl_exec
  sl_step
  isplitr
  · ipureintro; simp only [Prod.mk.injEq]; clear * -; revert k; decide +kernel
  isplitl [HF_src HF HF_dst Hir]
  · iapply (inRing_close_tail c X k.val h4 hk)
    isplitl [HF_src]; · iexact HF_src
    isplitl [HF HF_dst]
    · isplitl [HF]; · iexact HF
      iexists _; iexact HF_dst
    iexact Hir
  isplitl [HWb HBb]
  · isplitl [HWb]; · iexact HWb
    iexact HBb
  isplitl [HFo HFo_src HFo_dst Hco Hor]
  · iapply (outRing_close c X fW fB k.val h1 (by omega))
    isplitl [HFo HFo_src]
    · isplitl [HFo]; · iexact HFo
      iexists _; iexact HFo_src
    isplitl [Hco]
    · iapply (flight_at_Gout c X fW fB (Ring.sl 2 k.val) (Ring.bk 64 k.val) gg _ (payload_eq c fW fB k _ _ fo _ _)); iexact Hco
    isplitl [HFo_dst]; · iexact HFo_dst
    iexact Hor
  iexists _; iexact HW

/-- Before trip `k`: the carried words are trip `k`'s, the resources `resAt k`. -/
def invAt (k : ℕ) (acc : BitVec 32 × BitVec 32 × BitVec 32 × BitVec 32 × BitVec 32 × BitVec 32 × BitVec 32) : sProp 𝕄 :=
  iprop(⌜acc = accAt k⌝ ∗ resAt c X fW fB k)

/-- A trip from its invariant to the next. -/
theorem trip (k : Fin k0_t1_loop.trips) (v57 c0 : BitVec 32) (acc : BitVec 32 × BitVec 32 × BitVec 32 × BitVec 32 × BitVec 32 × BitVec 32 × BitVec 32) :
    invAt c X fW fB k.val acc ⊢ wp frame (wpE (defs₀ (F := F)) 𝒱₀ (c : Thread nD τ) none) Set.univ (tripG k v57 c0 acc)
      (invAt c X fW fB (k.val + 1)) := by
  unfold invAt
  iintro ⟨%e, H⟩
  subst e
  rcases Nat.lt_or_ge (k.val + 4) 64 with h4 | h4
  · rcases Nat.eq_zero_or_pos k.val with h0 | h1
    · iapply (trip_first c X fW fB k v57 c0 h0); iexact H
    · iapply (trip_mid c X fW fB k v57 c0 h1 h4); iexact H
  · iapply (trip_tail c X fW fB k v57 c0 h4); iexact H

end Cert.Proof.Stream

end
-- ==== Proof.Body.lean ====
/-
  The kernel's body: the weights and the bias copied into their buffers, the first four blocks of `x` started, the loop,
  the wait for the last copy. From every block of `x` at home, every slot free and the result at anything, to every block
  of `x` at home, every slot free and every block of the result at its value.
-/
module

public import proofs.«01_k».proof.Proof.Trip

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD) (X : Buf (Elt F) (xM.view.loc (c : Thread nD τ)))
  (gW : Buf (Elt F) (wM.view.loc (c : Thread nD τ))) (gB : Buf (Elt F) (bM.view.loc (c : Thread nD τ)))

/-- The weights, as their buffer holds them. -/
abbrev inW : Buf (Elt F) (wbuf.view.loc (c : Thread nD τ)) := fun (i : S64x4096.Idx) => gW i
/-- The bias, as its buffer holds it. -/
abbrev inB : Buf (Elt F) (bbuf.view.loc (c : Thread nD τ)) := fun (i : S1x64.Idx) => gB i

/-! ## Families by their members -/

theorem fives (Φ : Fin 5 → sProp 𝕄) : bigSep Finset.univ Φ = iprop(Φ 0 ∗ Φ 1 ∗ Φ 2 ∗ Φ 3 ∗ Φ 4) := by
  rw [bigSep_univ_eq_bigSepL [0, 1, 2, 3, 4] (by decide) (by decide)]; rfl
theorem twos (Φ : Fin 2 → sProp 𝕄) : bigSep Finset.univ Φ = iprop(Φ 0 ∗ Φ 1) := by
  rw [bigSep_univ_eq_bigSepL [0, 1] (by decide) (by decide)]; rfl

/-- The blocks of `x`: the first four, and the rest. -/
theorem homes_split (Φ : Fin 64 → sProp 𝕄) :
    bigSep Finset.univ Φ = iprop(Φ 0 ∗ Φ 1 ∗ Φ 2 ∗ Φ 3 ∗ bigSep (Ring.homeSet 4 0) Φ) := by
  have e : (Finset.univ : Finset (Fin 64)) = insert 0 (insert 1 (insert 2 (insert 3 (Ring.homeSet 4 0)))) := by decide +kernel
  rw [e, bigSep_put (by decide +kernel), bigSep_put (by decide +kernel), bigSep_put (by decide +kernel), bigSep_put (by decide +kernel)]

/-- The blocks of the result: the last, and those behind it. -/
theorem done_split (Φ : Fin 64 → sProp 𝕄) : bigSep Finset.univ Φ = iprop(Φ 63 ∗ bigSep (Ring.behindSet 1 64) Φ) := by
  have e : (Finset.univ : Finset (Fin 64)) = insert 63 (Ring.behindSet 1 64) := by decide +kernel
  rw [e, bigSep_put (by decide +kernel)]

/-! ## The rings before the first trip and after the last -/

theorem inRing_start :
    iprop(bigSep (Ring.homeSet 4 0) (xhomeP c X) ∗ xinfl c X 0 0 ∗ xinfl c X 1 1 ∗ xinfl c X 2 2 ∗ xinfl c X 3 3 ∗ xfree c 4) ⊢ inRing c X 0 := by
  unfold inRing
  rw [inRole_lt c X 0 (j := 0) (by decide), inRole_lt c X 0 (j := 1) (by decide), inRole_lt c X 0 (j := 2) (by decide), inRole_lt c X 0 (j := 3) (by decide)]
  exact .rfl

theorem inRing_end : inRing c X 64 ⊢ iprop(bigSep Finset.univ (xhomeP c X) ∗ bigSep Finset.univ (xfree c)) := by
  unfold inRing
  rw [Ring.homeSet_last (NB := 64) 4 64 (le_refl _), fives, inRole_ge c X 64 (j := 0) (by decide), inRole_ge c X 64 (j := 1) (by decide),
    inRole_ge c X 64 (j := 2) (by decide), inRole_ge c X 64 (j := 3) (by decide),
    show Ring.sl 5 (64 + 0) = 4 from rfl, show Ring.sl 5 (64 + 1) = 0 from rfl, show Ring.sl 5 (64 + 2) = 1 from rfl,
    show Ring.sl 5 (64 + 3) = 2 from rfl, show Ring.sl 5 (64 + 4) = 3 from rfl]
  iintro ⟨Hh, H4, H0, H1, H2, H3⟩
  isplitl [Hh]; · iexact Hh
  isplitl [H0]; · iexact H0
  isplitl [H1]; · iexact H1
  isplitl [H2]; · iexact H2
  isplitl [H3]; · iexact H3
  iexact H4

variable (fW : Buf (Elt F) (wbuf.view.loc (c : Thread nD τ))) (fB : Buf (Elt F) (bbuf.view.loc (c : Thread nD τ)))

theorem outRing_start :
    iprop(bigSep Finset.univ (ofree (F := F) c) ∗ bigSep Finset.univ (fun b => iprop(∃ g, ohomeP c b g))) ⊢ outRing c X fW fB 0 := by
  unfold outRing
  rw [twos, Ring.aheadSet_zero, Ring.behindSet_boot (NB := 64) (d := 1) 0 (by decide), bigSep_empty]
  unfold outRole
  rw [Ring.roleBAt_of_lt 1 _ _ 0 (by decide)]
  iintro ⟨⟨H0, H1⟩, Ha⟩
  isplitl [H0]; · iexact H0
  isplitl [H1]; · iexact H1
  isplitl [Ha]; · iexact Ha
  iempintro

theorem outRing_end :
    outRing c X fW fB 64 ⊢ iprop(ofree c 0 ∗ oinfl c (Gout c X fW fB) 1 63 ∗ bigSep (Ring.behindSet 1 64) (doneP c X fW fB)) := by
  unfold outRing
  rw [outRole_next c X fW fB 63 (by decide), show Ring.sl 2 64 = 0 from rfl, show Ring.sl 2 63 = 1 from rfl, show Ring.bk 64 63 = 63 from rfl]
  iintro ⟨H0, H1, -, Hb⟩
  isplitl [H0]; · iexact H0
  isplitl [H1]; · iexact H1
  iexact Hb

/-! ## What the body is handed and what it hands back -/

abbrev constCells : sProp 𝕄 :=
  iprop(semVal ((c : Thread nD τ), SemLoc.dma cc0_scoped6.sem) 0 ∗ semVal ((c : Thread nD τ), SemLoc.dma cc0_scoped7.sem) 0)
abbrev operandsP : sProp 𝕄 :=
  iprop(bigSep Finset.univ (xhomeP c X) ∗ (wM.view.loc (c : Thread nD τ) ↦[Finset.univ]{fullShare} gW) ∗ (bM.view.loc (c : Thread nD τ) ↦[Finset.univ]{fullShare} gB))
abbrev scratchP : sProp 𝕄 :=
  iprop(bigSep Finset.univ (xfree (F := F) c) ∗ bigSep Finset.univ (ofree (F := F) c) ∗ (∃ f, wbuf.view.loc (c : Thread nD τ) ↦[Finset.univ]{fullShare} f)
    ∗ (∃ f, bbuf.view.loc (c : Thread nD τ) ↦[Finset.univ]{fullShare} f) ∗ constCells c)

/-- The copied weights are the operand's. -/
theorem wbuf_at (f : Buf (Elt F) (wbuf.view.loc (c : Thread nD τ))) (p : S64x4096.Idx → Elt F .f32) (hp : p = inW c gW) :
    (wbuf.view.loc (c : Thread nD τ) ↦[Finset.univ]{fullShare} (wbuf.view.write (Elt F) f p Finset.univ) : sProp 𝕄)
      ⊢ (wbuf.view.loc (c : Thread nD τ) ↦[Finset.univ]{fullShare} (inW c gW)) := by
  subst hp
  rw [show wbuf.view.write (Elt F) f (inW c gW) Finset.univ = inW c gW from View.read_write_univ (v := wbuf.view) f _]
/-- The copied bias is the operand's. -/
theorem bbuf_at (f : Buf (Elt F) (bbuf.view.loc (c : Thread nD τ))) (p : S1x64.Idx → Elt F .f32) (hp : p = inB c gB) :
    (bbuf.view.loc (c : Thread nD τ) ↦[Finset.univ]{fullShare} (bbuf.view.write (Elt F) f p Finset.univ) : sProp 𝕄)
      ⊢ (bbuf.view.loc (c : Thread nD τ) ↦[Finset.univ]{fullShare} (inB c gB)) := by
  subst hp
  rw [show bbuf.view.write (Elt F) f (inB c gB) Finset.univ = inB c gB from View.read_write_univ (v := bbuf.view) f _]

/-- What the last trip leaves. -/
theorem res_end :
    resAt c X fW fB k0_t1_loop.trips ⊢ iprop((bigSep Finset.univ (xhomeP c X) ∗ bigSep Finset.univ (xfree c)) ∗ constsP c fW fB
      ∗ (ofree c 0 ∗ oinfl c (Gout c X fW fB) 1 63 ∗ bigSep (Ring.behindSet 1 64) (doneP c X fW fB)) ∗ ∃ W, owes (c : Thread nD τ) 0 W) := by
  rw [trips_eq]
  unfold resAt
  iintro ⟨Hi, Hc, Ho, HW⟩
  isplitl [Hi]; · iapply (inRing_end c X); iexact Hi
  isplitl [Hc]; · iexact Hc
  isplitl [Ho]; · iapply (outRing_end c X fW fB); iexact Ho
  iexact HW

abbrev bodyG : Prog (TpuEff nD τ sig (Elt F) Λ₀ .tc) PUnit :=
  cc0__outer xM (Memref.isWhole_whole _) wM (Memref.isWhole_whole _) bM (Memref.isWhole_whole _) oM (Memref.isWhole_whole _)
    xbuf (Memref.isWhole_whole _) cc0_scoped1 wbuf (Memref.isWhole_whole _) bbuf (Memref.isWhole_whole _) obuf (Memref.isWhole_whole _)
    cc0_scoped5 cc0_scoped6 cc0_scoped7

/-- The body's run. -/
theorem bodyRun (W : Waits sig Unit) (Q : PUnit → sProp 𝕄) :
    iprop((operandsP c X gW gB ∗ bigSep Finset.univ (fun b => iprop(∃ g, ohomeP c b g)) ∗ scratchP c ∗ owes (c : Thread nD τ) 0 W)
        ∗ ((operandsP c X gW gB ∗ bigSep Finset.univ (doneP c X (inW c gW) (inB c gB)) ∗ scratchP c ∗ ∃ W', owes (c : Thread nD τ) 0 W') -∗ Q ⟨⟩))
      ⊢ wp frame (wpE (defs₀ (F := F)) 𝒱₀ (c : Thread nD τ) none) Set.univ (bodyG (F := F)) Q := by
  unfold operandsP scratchP
  rw [homes_split, fives]
  iintro ⟨⟨⟨⟨Hx0, Hx1, Hx2, Hx3, Hh⟩, Hw, Hb⟩, Hout, ⟨⟨⟨Hc0, %f0, Hs0⟩, ⟨Hc1, %f1, Hs1⟩, ⟨Hc2, %f2, Hs2⟩, ⟨Hc3, %f3, Hs3⟩, Hf4⟩, Hof, ⟨%fW, HWb⟩, ⟨%fB, HBb⟩, ⟨Hcw, Hcb⟩⟩, HW⟩, Hk⟩
  sl_exec
  sl_for (invAt c X (inW c gW) (inB c gB)) $$ [HWb HBb Hc0 Hc1 Hc2 Hc3 HW Hh Hf4 Hout Hof]
  · iintro %k %acc H
    iapply (trip c X (inW c gW) (inB c gB) k _ _ acc); iexact H
  · unfold invAt resAt
    isplitr; · ipureintro; rfl
    isplitl [Hc0 Hc1 Hc2 Hc3 Hh Hf4]
    · iapply (inRing_start c X)
      isplitl [Hh]; · iexact Hh
      isplitl [Hc0]; · iexists f0; iexact Hc0
      isplitl [Hc1]; · iexists f1; iexact Hc1
      isplitl [Hc2]; · iexists f2; iexact Hc2
      isplitl [Hc3]; · iexists f3; iexact Hc3
      iexact Hf4
    isplitl [HWb HBb]
    · isplitl [HWb]; · iapply (wbuf_at c gW fW _ rfl); iexact HWb
      iapply (bbuf_at c gB fB _ rfl); iexact HBb
    isplitl [Hout Hof]
    · iapply (outRing_start c X (inW c gW) (inB c gB))
      isplitl [Hof]; · iexact Hof
      iexact Hout
    iexists _; iexact HW
  iintro %acc H
  unfold invAt
  icases H with ⟨%e, H⟩
  subst e
  ihave H' := (res_end c X (inW c gW) (inB c gB)) $$ H
  icases H' with ⟨⟨Hxh, Hxf⟩, ⟨HWb, HBb⟩, ⟨Ho0, ⟨%f, Ho1⟩, Hdone⟩, ⟨%W', HW⟩⟩
  have h4 := chk4_end
  have h5 := chk5_end
  sl_exec
  sl_step
  iapply Hk
  rw [← homes_split (xhomeP c X), ← fives (xfree c), done_split (doneP c X (inW c gW) (inB c gB)), twos (ofree c)]
  isplitl [Hxh Hw Hb]
  · isplitl [Hxh]; · iexact Hxh
    isplitl [Hw]; · iexact Hw
    iexact Hb
  isplitl [Hdone Ho1_dst]
  · isplitl [Ho1_dst]; · iexact Ho1_dst
    iexact Hdone
  isplitl [Hxf Ho0 Ho1_src Ho1 HWb HBb Hcw Hcb]
  · isplitl [Hxf]; · iexact Hxf
    isplitl [Ho0 Ho1_src Ho1]
    · isplitl [Ho0]; · iexact Ho0
      isplitl [Ho1]; · iexact Ho1
      iexists f; iexact Ho1_src
    isplitl [HWb]; · iexists _; iexact HWb
    isplitl [HBb]; · iexists _; iexact HBb
    isplitl [Hcw]; · iexact Hcw
    iexact Hcb
  iexists _; iexact HW

end Cert.Proof.Stream

end
-- ==== Proof.Launch.lean ====
/-
  The launch: the four operands and the result whole are their blocks, the two staging buffers their slots, the nine
  semaphore counters at zero. From any memory every execution ends with the result at the rows' softmax, the arguments
  as they were and every counter at zero, for any float values.
-/
module

public import proofs.«01_k».proof.Proof.Body

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

theorem of_equal {P Q : sProp 𝕄} (e : P = Q) : P ⊢ Q := by rw [e]
theorem each {I : Type} {s : Finset I} {Φ Ψ : I → sProp 𝕄} (h : ∀ i ∈ s, Φ i ⊢ Ψ i) : bigSep s Φ ⊢ bigSep s Ψ := bigSep_mono h

/-! ## The element sets of the blocks and slots -/

abbrev xrows (b : Fin 64) : Finset S32768x4096.Idx := (Rect.unit (s := S32768x4096) (xoff b) S512x4096.size (xoff_inb b)).set
abbrev orows (b : Fin 64) : Finset S32768x64.Idx := (Rect.unit (s := S32768x64) (xoff b) S512x64.size (ooff_inb b)).set
abbrev xpart (s : Fin 5) : Finset S5x512x4096.Idx := (Rect.unit (s := S5x512x4096) (soff s) S1x512x4096.size (xsoff_inb s)).set
abbrev opart (s : Fin 2) : Finset S2x512x64.Idx := (Rect.unit (s := S2x512x64) (soff s) S1x512x64.size (osoff_inb s)).set

theorem xblk_set (b : Fin 64) : (xblk b).view.set = xrows b := View.set_slice_whole _ _
theorem oblk_set (b : Fin 64) : (oblk b).view.set = orows b := View.set_slice_whole _ _
theorem xslot_set (s : Fin 5) : (xslot s).view.set = xpart s := (View.set_reshape _ _).trans (View.set_slice_whole _ _)
theorem oslot_set (s : Fin 2) : (oslot s).view.set = opart s := (View.set_reshape _ _).trans (View.set_slice_whole _ _)

theorem mem_xrows (b : Fin 64) (y : S32768x4096.Idx) : y ∈ xrows b ↔ (y 0).val / 512 = b.val := by
  rw [Rect.mem_set_unit, Fin.forall_fin_two]
  have h1 : (y 1).val < 4096 := (y 1).isLt
  show (512 * b.val ≤ (y 0).val ∧ (y 0).val < 512 * b.val + 512) ∧ (0 ≤ (y 1).val ∧ (y 1).val < 0 + 4096) ↔ _
  omega
theorem mem_orows (b : Fin 64) (y : S32768x64.Idx) : y ∈ orows b ↔ (y 0).val / 512 = b.val := by
  rw [Rect.mem_set_unit, Fin.forall_fin_two]
  have h1 : (y 1).val < 64 := (y 1).isLt
  show (512 * b.val ≤ (y 0).val ∧ (y 0).val < 512 * b.val + 512) ∧ (0 ≤ (y 1).val ∧ (y 1).val < 0 + 64) ↔ _
  omega
theorem mem_xpart (s : Fin 5) (y : S5x512x4096.Idx) : y ∈ xpart s ↔ (y 0).val = s.val := by
  rw [Rect.mem_set_unit, Fin.forall_fin_succ, Fin.forall_fin_two]
  have h1 : (y 1).val < 512 := (y 1).isLt
  have h2 : (y 2).val < 4096 := (y 2).isLt
  show (s.val ≤ (y 0).val ∧ (y 0).val < s.val + 1) ∧ (0 ≤ (y 1).val ∧ (y 1).val < 0 + 512) ∧ (0 ≤ (y 2).val ∧ (y 2).val < 0 + 4096) ↔ _
  omega
theorem mem_opart (s : Fin 2) (y : S2x512x64.Idx) : y ∈ opart s ↔ (y 0).val = s.val := by
  rw [Rect.mem_set_unit, Fin.forall_fin_succ, Fin.forall_fin_two]
  have h1 : (y 1).val < 512 := (y 1).isLt
  have h2 : (y 2).val < 64 := (y 2).isLt
  show (s.val ≤ (y 0).val ∧ (y 0).val < s.val + 1) ∧ (0 ≤ (y 1).val ∧ (y 1).val < 0 + 512) ∧ (0 ≤ (y 2).val ∧ (y 2).val < 0 + 64) ↔ _
  omega

/-- Sets told apart by a number of the element are disjoint, and cover when every element's number is in range. -/
theorem apart {S : Shape} {n : ℕ} (J : Fin n → Finset S.Idx) (num : S.Idx → ℕ) (h : ∀ b y, y ∈ J b ↔ num y = b.val) :
    ∀ b b' : Fin n, b ≠ b' → Disjoint (J b) (J b') := by
  intro b b' hne; rw [Finset.disjoint_left]; intro y hy hy'
  exact hne (Fin.ext (((h b y).mp hy).symm.trans ((h b' y).mp hy')))
theorem covers {S : Shape} {n : ℕ} (J : Fin n → Finset S.Idx) (num : S.Idx → ℕ) (h : ∀ b y, y ∈ J b ↔ num y = b.val)
    (hn : ∀ y, num y < n) : (Finset.univ : Finset (Fin n)).biUnion J = Finset.univ := by
  ext y
  simp only [Finset.mem_biUnion, Finset.mem_univ, true_and, iff_true]
  exact ⟨⟨num y, hn y⟩, (h _ y).mpr rfl⟩

theorem xrows_apart : ∀ b b' : Fin 64, b ≠ b' → Disjoint (xrows b) (xrows b') := apart xrows (fun y => (y 0).val / 512) mem_xrows
theorem orows_apart : ∀ b b' : Fin 64, b ≠ b' → Disjoint (orows b) (orows b') := apart orows (fun y => (y 0).val / 512) mem_orows
theorem xpart_apart : ∀ s s' : Fin 5, s ≠ s' → Disjoint (xpart s) (xpart s') := apart xpart (fun y => (y 0).val) mem_xpart
theorem opart_apart : ∀ s s' : Fin 2, s ≠ s' → Disjoint (opart s) (opart s') := apart opart (fun y => (y 0).val) mem_opart
theorem xrows_all : (Finset.univ : Finset (Fin 64)).biUnion xrows = Finset.univ := covers xrows (fun y => (y 0).val / 512) mem_xrows fun y => by
  have h : (y 0).val < 32768 := (y 0).isLt
  show (y 0).val / 512 < 64; omega
theorem orows_all : (Finset.univ : Finset (Fin 64)).biUnion orows = Finset.univ := covers orows (fun y => (y 0).val / 512) mem_orows fun y => by
  have h : (y 0).val < 32768 := (y 0).isLt
  show (y 0).val / 512 < 64; omega
theorem xpart_all : (Finset.univ : Finset (Fin 5)).biUnion xpart = Finset.univ := covers xpart (fun y => (y 0).val) mem_xpart fun y => (y 0).isLt
theorem opart_all : (Finset.univ : Finset (Fin 2)).biUnion opart = Finset.univ := covers opart (fun y => (y 0).val) mem_opart fun y => (y 0).isLt

/-! ## Buffers whole and in pieces -/

section Pieces

variable (c : Dev nD)

theorem x_whole (X : Buf (Elt F) (xM.view.loc (c : Thread nD τ))) :
    (((c : Thread nD τ).loc main_arg0) ↦{fullShare} X : sProp 𝕄) = bigSep Finset.univ (xhomeP c X) := by
  rw [Ring.pointsTo_blocks (ℓ := (c : Thread nD τ).loc main_arg0) xrows xrows_apart xrows_all]
  exact bigSep_congr fun b _ => by rw [← xblk_set]; rfl

theorem o_whole (g : Buf (Elt F) (oM.view.loc (c : Thread nD τ))) :
    (((c : Thread nD τ).loc main_v1) ↦{fullShare} g : sProp 𝕄) = bigSep Finset.univ (fun b => ohomeP c b g) := by
  rw [Ring.pointsTo_blocks (ℓ := (c : Thread nD τ).loc main_v1) orows orows_apart orows_all]
  exact bigSep_congr fun b _ => by rw [← oblk_set]; rfl

theorem o_some (g : Buf (Elt F) (oM.view.loc (c : Thread nD τ))) :
    (((c : Thread nD τ).loc main_v1) ↦{fullShare} g : sProp 𝕄) ⊢ bigSep Finset.univ (fun b => iprop(∃ g, ohomeP c b g)) := by
  rw [o_whole]
  exact each fun b _ => by iintro H; iexists g; iexact H

theorem xslot_eq (s : Fin 5) (f) : xslotP c s f = (((c : Thread nD τ).loc cc0_scoped0) ↦[xpart s]{fullShare} f : sProp 𝕄) :=
  congrArg (fun S => (_ ↦[S]{fullShare} f : sProp 𝕄)) (xslot_set s)
theorem oslot_eq (s : Fin 2) (f) : oslotP c s f = (((c : Thread nD τ).loc cc0_scoped4) ↦[opart s]{fullShare} f : sProp 𝕄) :=
  congrArg (fun S => (_ ↦[S]{fullShare} f : sProp 𝕄)) (oslot_set s)

theorem xbuf_parts : iprop(∃ f : Buf (Elt F) ((c : Thread nD τ).loc cc0_scoped0), ((c : Thread nD τ).loc cc0_scoped0) ↦{fullShare} f)
    ⊢ (bigSep Finset.univ (fun s => iprop(∃ f, xslotP c s f)) : sProp 𝕄) := by
  iintro ⟨%f, H⟩
  ihave H' := (of_equal (Ring.pointsTo_blocks (Ix := Unit) (Name := ℕ) (U := UU nD τ) (Lvl := ℕ) (q := fullShare) (ℓ := (c : Thread nD τ).loc cc0_scoped0) xpart xpart_apart xpart_all f)) $$ H
  iapply (each (Φ := fun s => (((c : Thread nD τ).loc cc0_scoped0) ↦[xpart s]{fullShare} f : sProp 𝕄)) fun s _ => by
    iintro H; iexists f; rw [xslot_eq c s f]; iexact H)
  iexact H'
theorem obuf_parts : iprop(∃ f : Buf (Elt F) ((c : Thread nD τ).loc cc0_scoped4), ((c : Thread nD τ).loc cc0_scoped4) ↦{fullShare} f)
    ⊢ (bigSep Finset.univ (fun s => iprop(∃ f, oslotP c s f)) : sProp 𝕄) := by
  iintro ⟨%f, H⟩
  ihave H' := (of_equal (Ring.pointsTo_blocks (Ix := Unit) (Name := ℕ) (U := UU nD τ) (Lvl := ℕ) (q := fullShare) (ℓ := (c : Thread nD τ).loc cc0_scoped4) opart opart_apart opart_all f)) $$ H
  iapply (each (Φ := fun s => (((c : Thread nD τ).loc cc0_scoped4) ↦[opart s]{fullShare} f : sProp 𝕄)) fun s _ => by
    iintro H; iexists f; rw [oslot_eq c s f]; iexact H)
  iexact H'
theorem xbuf_back : (bigSep Finset.univ (fun s => iprop(∃ f, xslotP c s f)) : sProp 𝕄)
    ⊢ iprop(∃ f : Buf (Elt F) ((c : Thread nD τ).loc cc0_scoped0), ((c : Thread nD τ).loc cc0_scoped0) ↦{fullShare} f) := by
  rw [fives]
  iintro ⟨⟨%f0, H0⟩, H1, H2, H3, H4⟩
  iapply (Ring.pointsTo_blocks_join_exists (ℓ := (c : Thread nD τ).loc cc0_scoped0) xpart xpart_apart xpart_all f0)
  irw [fives]
  isplitl [H0]; · iexists f0; iapply (of_equal (xslot_eq c 0 f0)); iexact H0
  isplitl [H1]; · icases H1 with ⟨%f, H⟩; iexists f; iapply (of_equal (xslot_eq c 1 f)); iexact H
  isplitl [H2]; · icases H2 with ⟨%f, H⟩; iexists f; iapply (of_equal (xslot_eq c 2 f)); iexact H
  isplitl [H3]; · icases H3 with ⟨%f, H⟩; iexists f; iapply (of_equal (xslot_eq c 3 f)); iexact H
  icases H4 with ⟨%f, H⟩; iexists f; iapply (of_equal (xslot_eq c 4 f)); iexact H
theorem obuf_back : (bigSep Finset.univ (fun s => iprop(∃ f, oslotP c s f)) : sProp 𝕄)
    ⊢ iprop(∃ f : Buf (Elt F) ((c : Thread nD τ).loc cc0_scoped4), ((c : Thread nD τ).loc cc0_scoped4) ↦{fullShare} f) := by
  rw [twos]
  iintro ⟨⟨%f0, H0⟩, ⟨%f1, H1⟩⟩
  iapply (Ring.pointsTo_blocks_join_exists (ℓ := (c : Thread nD τ).loc cc0_scoped4) opart opart_apart opart_all f0)
  irw [twos]
  isplitl [H0]; · iexists f0; iapply (of_equal (oslot_eq c 0 f0)); iexact H0
  iexists f1; iapply (of_equal (oslot_eq c 1 f1)); iexact H1

end Pieces

/-! ## The semaphores of the kernel -/

abbrev osem : Fin 9 → SemLoc sig := fun i => .dma i
theorem ownSemFacts : Pipeline.OwnSemFacts (cfg0.spec) osem := by decide

/-- The nine counters at zero, by their owners. -/
theorem cells_eq (c : Dev nD) : (Pipeline.ownSems0 (Ix := Unit) (Name := ℕ) (U := UU nD τ) (Lvl := ℕ) (Val := Elt F) (τ := τ) osem c : sProp 𝕄)
    = iprop(xcellP c 0 ∗ xcellP c 1 ∗ xcellP c 2 ∗ xcellP c 3 ∗ xcellP c 4 ∗ ocellP c 0 ∗ ocellP c 1
        ∗ semVal ((c : Thread nD τ), SemLoc.dma cc0_scoped6.sem) 0 ∗ semVal ((c : Thread nD τ), SemLoc.dma cc0_scoped7.sem) 0) := by
  unfold Pipeline.ownSems0
  rw [bigSep_univ_eq_bigSepL [0, 1, 2, 3, 4, 5, 6, 7, 8] (by decide) (by decide)]
  rfl

/-- The scratch of the call: its buffers at some contents and its counters at zero. -/
theorem scratch_eq (c : Dev nD) :
    iprop(Pipeline.ownSems0 osem c ∗ Pipeline.scopedRest (cfg0.spec) c) ⊢ (scratchP c : sProp 𝕄) := by
  rw [cells_eq, scopedRest0_eq]
  unfold scratchP
  rw [fives (xfree c), twos (ofree c)]
  iintro ⟨⟨X0, X1, X2, X3, X4, O0, O1, CW, CB⟩, HX, HW, HB, HO⟩
  ihave HX' := ((xbuf_parts c).trans (of_equal (fives _))) $$ HX
  ihave HO' := ((obuf_parts c).trans (of_equal (twos _))) $$ HO
  icases HX' with ⟨H0, H1, H2, H3, H4⟩
  icases HO' with ⟨G0, G1⟩
  isplitl [X0 X1 X2 X3 X4 H0 H1 H2 H3 H4]
  · isplitl [X0 H0]; · isplitl [X0] <;> iassumption
    isplitl [X1 H1]; · isplitl [X1] <;> iassumption
    isplitl [X2 H2]; · isplitl [X2] <;> iassumption
    isplitl [X3 H3]; · isplitl [X3] <;> iassumption
    isplitl [X4] <;> iassumption
  isplitl [O0 O1 G0 G1]
  · isplitl [O0 G0]; · isplitl [O0] <;> iassumption
    isplitl [O1] <;> iassumption
  isplitl [HW]; · iexact HW
  isplitl [HB]; · iexact HB
  isplitl [CW]; · iexact CW
  iexact CB
theorem scratch_back (c : Dev nD) :
    (scratchP c : sProp 𝕄) ⊢ iprop(Pipeline.ownSems0 osem c ∗ Pipeline.scopedRest (cfg0.spec) c) := by
  rw [cells_eq, scopedRest0_eq]
  unfold scratchP
  rw [fives (xfree c), twos (ofree c)]
  iintro ⟨⟨⟨X0, H0⟩, ⟨X1, H1⟩, ⟨X2, H2⟩, ⟨X3, H3⟩, ⟨X4, H4⟩⟩, ⟨⟨O0, G0⟩, ⟨O1, G1⟩⟩, HW, HB, CW, CB⟩
  isplitl [X0 X1 X2 X3 X4 O0 O1 CW CB]
  · isplitl [X0]; · iexact X0
    isplitl [X1]; · iexact X1
    isplitl [X2]; · iexact X2
    isplitl [X3]; · iexact X3
    isplitl [X4]; · iexact X4
    isplitl [O0]; · iexact O0
    isplitl [O1]; · iexact O1
    isplitl [CW]; · iexact CW
    iexact CB
  isplitl [H0 H1 H2 H3 H4]
  · iapply (xbuf_back c); irw [fives]
    isplitl [H0]; · iexact H0
    isplitl [H1]; · iexact H1
    isplitl [H2]; · iexact H2
    isplitl [H3]; · iexact H3
    iexact H4
  isplitl [HW]; · iexact HW
  isplitl [HB]; · iexact HB
  iapply (obuf_back c); irw [twos]
  isplitl [G0]; · iexact G0
  iexact G1

end Cert.Proof.Stream

end
-- ==== Proof.Run.lean ====
/-
  The run of the whole program from any memory: the result ends at the rows' softmax, the arguments as they were, every
  counter at zero.
-/
module

public import proofs.«01_k».proof.Proof.Launch

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

abbrev EP : Emb (UR sig nD τ) (MT nD τ sig Unit (Elt F) ℕ (UU nD τ) ℕ) := embL

variable (m : (ℓ : Loc nD τ sig) → Buf (Elt F) ℓ) (ρ : Dev nD → PrngReg)

/-- The three operands as the call finds them. -/
abbrev atX (c : Dev nD) : Buf (Elt F) (xM.view.loc (c : Thread nD τ)) := V m c main_arg0
abbrev atW (c : Dev nD) : Buf (Elt F) (wM.view.loc (c : Thread nD τ)) := V m c main_arg1
abbrev atB (c : Dev nD) : Buf (Elt F) (bM.view.loc (c : Thread nD τ)) := V m c main_v0
/-- What the call leaves in the result. -/
abbrev final (c : Dev nD) : Buf (Elt F) (oM.view.loc (c : Thread nD τ)) := Gout c (atX m c) (inW c (atW m c)) (inB c (atB m c))

/-- Before the one point: the operands, the result at some contents, the scratch. -/
def before (c : Dev nD) : sProp 𝕄 :=
  iprop(operandsP c (atX m c) (atW m c) (atB m c) ∗ bigSep Finset.univ (fun b => iprop(∃ g, ohomeP c b g)) ∗ scratchP c)
/-- After it: the result's blocks at their contents. -/
def later (c : Dev nD) : sProp 𝕄 :=
  iprop(operandsP c (atX m c) (atW m c) (atB m c)
    ∗ bigSep Finset.univ (doneP c (atX m c) (inW c (atW m c)) (inB c (atB m c))) ∗ scratchP c)

def dats (_ : Fin 1) (c : Dev nD) : Dat τ (Elt F) Unit ℕ (UU nD τ) ℕ cfg0 c where
  A w := w.elim0
  after w _ := w.elim0
  Φ t := if t.val = 0 then before m c else later m c
  q _ := fullShare
  owed _ := 0

theorem Φ_start (c : Dev nD) (t : Fin cfg0.N) : (dats m 0 c).Φ t.castSucc = before m c := by
  rw [fin_N0 t]; rfl
theorem Φ_stop (c : Dev nD) (t : Fin cfg0.N) : (dats m 0 c).Φ t.succ = later m c := by
  rw [fin_N0 t]; rfl

theorem defs_row : (defs₀ (F := F)) .tc cfg0.body = fun _ => bodyG := rfl
theorem body_row (t : Fin cfg0.N) : (defs₀ (F := F)) .tc cfg0.body (cfg0.bodyArgs t (cfg0.slots t)) = bodyG :=
  (congrFun defs_row _).trans rfl

theorem no_windows (Φ : Fin cfg0.W → sProp 𝕄) : bigSep Finset.univ Φ = iprop(emp) := by
  rw [show (Finset.univ : Finset (Fin cfg0.W)) = ∅ from rfl, bigSep_empty]; rfl

set_option backward.isDefEq.respectTransparency.types false in
theorem body_obligation (c : Dev nD) : BodyObligation (dats (F := F) m 0 c) (defs₀ (F := F)) 𝒱₀ () Set.univ := fun t => by
  rw [no_windows, no_windows, Φ_start, Φ_stop]
  unfold Dat.owesAt Pipeline.owesWithin
  rw [show (dats m 0 c).owed t.castSucc = 0 from rfl, show (dats m 0 c).owed t.succ = 0 from rfl]
  unfold before later
  iintro ⟨⟨Hop, Ho, Hs⟩, ⟨%W, -, HW⟩, -⟩
  sl_rw [body_row t]
  iapply (bodyRun c (atX m c) (atW m c) (atB m c) W)
  isplitl [Hop Ho Hs HW]
  · isplitl [Hop]; · iexact Hop
    isplitl [Ho]; · iexact Ho
    isplitl [Hs]; · iexact Hs
    iexact HW
  iintro ⟨Hop, Ho, Hs, ⟨%W', HW⟩⟩
  isplitl [Hop Ho Hs]
  · isplitl [Hop]; · iexact Hop
    isplitl [Ho]; · iexact Ho
    iexact Hs
  isplitl [HW]
  · iexists W'; isplitr; · ipureintro; exact fun _ _ => Or.inl trivial
    iexact HW
  iempintro

/-! ## The run -/

def entryP (c : Dev nD) : sProp 𝕄 :=
  iprop(operandsP c (atX m c) (atW m c) (atB m c) ∗ bigSep Finset.univ (fun b => iprop(∃ g, ohomeP c b g)) ∗ Pipeline.ownSems0 osem c)
def exitP (c : Dev nD) : sProp 𝕄 :=
  iprop((((c : Thread nD τ).loc main_arg0) ↦{fullShare} atX m c) ∗ (((c : Thread nD τ).loc main_arg1) ↦{fullShare} atW m c)
    ∗ (((c : Thread nD τ).loc main_v1) ↦{fullShare} final m c))
def keptP (c : Dev nD) : sProp 𝕄 := ((c : Thread nD τ).loc main_arg2) ↦{fullShare} V m c main_arg2
def u₀ : UU nD τ := (initOf (Pipeline.cells cfgs cellOf_inj) (Pipeline.launchToks cfgs cellOf_inj), 1)
/-- What a core's memory ends with. -/
def Ends (c : Dev nD) (s : MemSt nD τ sig (Elt F)) : Prop :=
  s.mem ((c : Thread nD τ).loc main_v1) = final m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)

set_option backward.isDefEq.respectTransparency.types false in
theorem run_main : θ_run defs (onTc (τ := τ) (main (F := F))) ⟨m, fun _ => 0, ρ⟩ (fun r => (∀ c, Ends m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ w => w.elim0)
    (X := entryP m) (Y := exitP m) (Z := keptP m)
    (hX := fun c => by
      rw [unscopedRest0_eq]
      unfold entryP keptP operandsP
      iintro ⟨⟨H0, H1, H2, Hb, Ho⟩, HS, -, -, -⟩; imodintro
      isplitl [H0 H1 Hb Ho HS]
      · isplitl [H0 H1 Hb]
        · isplitl [H0]; · iapply (of_equal (x_whole c (atX m c))); iexact H0
          isplitl [H1]; · iexact H1
          iexact Hb
        isplitl [Ho]; · iapply (o_some c _); iexact Ho
        iexact HS
      iexact H2)
    (hin := fun c => by
      rw [show (dats m 0 c).Φ 0 = before m c from rfl]
      unfold entryP before
      iintro ⟨⟨Hop, Ho, HS⟩, HR⟩
      isplitl [Hop]; · iexact Hop
      isplitl [Ho]; · iexact Ho
      iapply (scratch_eq c)
      isplitl [HS]; · iexact HS
      iexact HR)
    (hout := fun c => by
      rw [show (dats m 0 c).Φ (Fin.last cfg0.N) = later m c from rfl]
      unfold exitP later operandsP
      iintro ⟨⟨H0, H1, -⟩, Ho, Hs⟩
      isplitl [H0 H1 Ho]
      · isplitl [H0]; · iapply (of_equal (x_whole c (atX m c)).symm); iexact H0
        isplitl [H1]; · iexact H1
        iapply (of_equal (o_whole c (final m c)).symm); iexact Ho
      iapply (scratch_back c); iexact Hs)
    (QY := Ends m)
    (hY := fun c s' => by
      unfold exitP keptP
      iintro ⟨⟨H0, H1, Ho⟩, H2, HSI⟩
      icombine HSI H0 gives %h0
      icombine HSI H1 gives %h1
      icombine HSI H2 gives %h2
      icombine HSI Ho gives %ho
      imodintro
      isplitr
      · ipureintro
        exact ⟨Buf.eq_of_forall_mem_univ ho, (Buf.eq_of_forall_mem_univ h0).trans (V_main_arg0 m c),
          (Buf.eq_of_forall_mem_univ h1).trans (V_main_arg1 m c), (Buf.eq_of_forall_mem_univ h2).trans (V_main_arg2 m c)⟩
      iexact HSI)
    (hQ := fun _ hh hz => ⟨fun c => (hh c).2, hz⟩)

end Cert.Proof.Stream

end
-- ==== Proof.Value.lean ====
/-
  The value at exact arithmetic: an element of the kernel's result is the softmax of its row's logits, as the reference
  computes it. Both take the row's greatest logit, exponentiate the differences and divide by their sum.
-/
module

public import proofs.«01_k».proof.Proof.Block
public import proofs.«01_k».proof.Proof.Gen.ReferenceIdeal.Run
public import Idealize.ShloMosaic.Lib.Pointwise

@[expose] public section

set_option maxRecDepth 16384

noncomputable section

namespace Cert.Proof.Stream

open Idealize.ShloMosaic Idealize.ShloMosaic.TcCoe

/-- The greatest of a row's logits. -/
def top (z : Fin 64 → EReal) : EReal := Finset.univ.fold max (Ideal.ofBits .f32 0xFF800000#32) z
/-- A row's softmax at one entry. -/
def softRow (z : Fin 64 → EReal) (j : Fin 64) : EReal :=
  Ideal.div (Ideal.exp (z j - top z)) (∑ k, Ideal.exp (z k - top z))

/-- A maximum taken from a start is at least the start. -/
theorem max_top (z : Fin 64 → EReal) : max (Ideal.ofBits .f32 0xFF800000#32) (top z) = top z :=
  max_eq_right ((Finset.le_fold_max _).mpr (Or.inl le_rfl))

/-- The kernel's block at an element. -/
theorem soft_at (r : Cert.KernelIdeal.S512x4096.Idx → Elt Ideal .f32) (w : Cert.KernelIdeal.S64x4096.Idx → Elt Ideal .f32)
    (b : Cert.KernelIdeal.S1x64.Idx → Elt Ideal .f32) (i : Fin 512) (j : Fin 64) :
    soft (F := Ideal) r w b (ix2 i j) = softRow (fun k => ∑ t, r (ix2 i t) * w (ix2 k t) + b (ix2 0 k)) j := by
  pointwise [soft, Cert.KernelIdeal.Gen.k0_pay2]
  rfl

section Reference

open Cert.ReferenceIdeal Cert.ReferenceIdeal.Gen

variable (x : FVec Ideal S32768x4096 .f32) (w : FVec Ideal S64x4096 .f32) (b : FVec Ideal S64 .f32)

/-- The reference's logits, the row maxima of them, and its result. -/
def refLogits : FVec Ideal S32768x64 .f32 :=
  addf (Host.dotGeneral dot_S32768x4096_S4096x64_S32768x64_1_0_0_1_n_n none x (transpose S4096x64 [1, 0] w transposes_S64x4096_S4096x64_1_0)) (broadcastInDim S32768x64 ![0, 1] bcast_S1x64_S32768x64_0_1 (broadcastInDim S1x64 ![1] bcast_S64_S1x64_1 b))
def refTop : FVec Ideal S32768 .f32 :=
  maximumf (broadcastInDim S32768 ![] bcast_S_S32768 (constant S_ .f32 0xFF800000#32)) (Host.reduce FloatOps.maximumf (refLogits x w b) (constant S_ .f32 0xFF800000#32) reducesTo_S32768x64_S32768_d1 h_S_)
def refExp : FVec Ideal S32768x64 .f32 :=
  Host.exp (subf (refLogits x w b) (broadcastInDim S32768x64 ![0, 1] bcast_S32768x1_S32768x64_0_1 (broadcastInDim S32768x1 ![0] bcast_S32768_S32768x1_0 (refTop x w b))))
def refOut : FVec Ideal S32768x64 .f32 :=
  Host.divf (refExp x w b) (broadcastInDim S32768x64 ![0, 1] bcast_S32768x1_S32768x64_0_1 (broadcastInDim S32768x1 ![0] bcast_S32768_S32768x1_0 (Host.reduceAdd (refExp x w b) (constant S_ .f32 0x00000000#32) reducesTo_S32768x64_S32768_d1 h_S_)))

theorem refLogits_at (i : Fin 32768) (j : Fin 64) : refLogits x w b (ix2 i j) = ∑ t, x (ix2 i t) * w (ix2 j t) + b (ix1 j) := by
  pointwise [refLogits]

/-- The greatest of a row, as a maximum over the elements that the reduction sends to it, and over the row. -/
theorem rowMax_set (z : FVec Ideal S32768x64 .f32) (i : Fin 32768) :
    Host.reduce FloatOps.maximumf z (constant S_ .f32 0xFF800000#32) reducesTo_S32768x64_S32768_d1 h_S_ (ix1 i)
      = (Finset.univ.filter fun k => reducesTo_S32768x64_S32768_d1.drop k = ix1 i).fold (FloatOps.maximumf (F := Ideal) (φ := .f32))
          (constant (F := Ideal) S_ .f32 0xFF800000#32 (Shape.Idx.first h_S_)) z :=
  Host.reduce_eq_fold (FloatOps.maximumf (F := Ideal) (φ := .f32)) z _ reducesTo_S32768x64_S32768_d1 h_S_ (ix1 i)
theorem rowMax_row (z : FVec Ideal S32768x64 .f32) (i : Fin 32768) :
    (Finset.univ.filter fun k => reducesTo_S32768x64_S32768_d1.drop k = ix1 i).fold (FloatOps.maximumf (F := Ideal) (φ := .f32))
        (constant (F := Ideal) S_ .f32 0xFF800000#32 (Shape.Idx.first h_S_)) z
      = top (fun j => z (ix2 i j)) :=
  reducesTo_S32768x64_S32768_d1.fold_fiber_r2_a1 (ix1 i) _ _ z
theorem rowMax_at (z : FVec Ideal S32768x64 .f32) (i : Fin 32768) :
    Host.reduce FloatOps.maximumf z (constant S_ .f32 0xFF800000#32) reducesTo_S32768x64_S32768_d1 h_S_ (ix1 i)
      = top (fun j => z (ix2 i j)) :=
  (rowMax_set z i).trans (rowMax_row z i)

theorem max_at (p q : FVec Ideal S32768 .f32) (i : S32768.Idx) : maximumf p q i = max (p i) (q i) := rfl
theorem start_at (i : S32768.Idx) :
    broadcastInDim S32768 ![] bcast_S_S32768 (constant (F := Ideal) S_ .f32 0xFF800000#32) i = Ideal.ofBits .f32 0xFF800000#32 := rfl
theorem topOf_at (z : FVec Ideal S32768x64 .f32) (i : Fin 32768) :
    maximumf (broadcastInDim S32768 ![] bcast_S_S32768 (constant S_ .f32 0xFF800000#32))
      (Host.reduce FloatOps.maximumf z (constant S_ .f32 0xFF800000#32) reducesTo_S32768x64_S32768_d1 h_S_) (ix1 i)
      = max (Ideal.ofBits .f32 0xFF800000#32) (top fun j => z (ix2 i j)) :=
  (max_at _ _ _).trans (by rw [start_at, rowMax_at])

theorem refTop_at (i : Fin 32768) : refTop x w b (ix1 i) = top (fun j => refLogits x w b (ix2 i j)) :=
  (topOf_at _ i).trans (max_top _)

theorem refExp_at (i : Fin 32768) (j : Fin 64) :
    refExp x w b (ix2 i j) = Ideal.exp (refLogits x w b (ix2 i j) - top (fun j => refLogits x w b (ix2 i j))) := by
  rw [← refTop_at]
  pointwise [refExp]

/-- The reference's result at an element. -/
theorem refOut_at (i : Fin 32768) (j : Fin 64) :
    refOut x w b (ix2 i j) = softRow (fun k => ∑ t, x (ix2 i t) * w (ix2 k t) + b (ix1 k)) j := by
  have e : (fun k => ∑ t, x (ix2 i t) * w (ix2 k t) + b (ix1 k)) = fun k => refLogits x w b (ix2 i k) :=
    funext fun k => (refLogits_at x w b i k).symm
  rw [e]
  unfold softRow
  simp only [← refExp_at]
  pointwise [refOut]

end Reference

end Cert.Proof.Stream

end
-- ==== Proof.Equal.lean ====
/-
  The whole result at exact arithmetic: what the run leaves is what the reference computes of the same arguments.
-/
module

public import proofs.«01_k».proof.Proof.Run
public import proofs.«01_k».proof.Proof.Value

@[expose] public section

set_option maxRecDepth 16384

noncomputable section

namespace Cert.Proof.Stream

open Idealize.ShloMosaic Idealize.ShloMosaic.TcCoe Idealize.ShloMosaic.StableHlo

section Together

open Cert.KernelIdeal Cert.KernelIdeal.Gen

variable (m : (ℓ : Loc nD τ sig) → Buf (Elt Ideal) ℓ) (c : Dev nD)

/-- The bias as the call finds it: one row of the argument's entries. -/
theorem bias_found : atB m c = shapeCast S1x64 (m ((c.tc : Thread nD τ).loc main_arg2)) shapeCasts_S64_S1x64 := by
  unfold atB V hostOps0
  after_results
  rfl

theorem bias_at (k : Fin 64) : inB c (atB m c) (ix2 0 k) = m ((c.tc : Thread nD τ).loc main_arg2) (ix1 k) := by
  show atB m c (ix2 0 k) = _
  rw [bias_found]
  pointwise []

/-- A row of a block is a row of `x`. -/
theorem row_at (X : Buf (Elt Ideal) (xM.view.loc (c.tc : Thread nD τ))) (i : Fin 32768) (j : Fin 64) (t : Fin 4096) :
    rows c X (rowBlk (ix2 i j)) (ix2 (rowIn (ix2 i j) 0) t) = X (ix2 i t) := by
  show X _ = X _
  congr 1
  funext a
  apply Fin.ext
  match a with
  | ⟨0, _⟩ => show 512 * (i.val / 512) + 1 * (i.val % 512) = i.val; omega
  | ⟨1, _⟩ => show 0 + 1 * t.val = t.val; omega

/-- The kernel's result is the reference's, element by element. -/
theorem final_eq : final m c = refOut (m ((c.tc : Thread nD τ).loc main_arg0)) (m ((c.tc : Thread nD τ).loc main_arg1))
    (m ((c.tc : Thread nD τ).loc main_arg2)) := by
  funext y
  obtain ⟨i, j, rfl⟩ : ∃ (i : Fin 32768) (j : Fin 64), y = ix2 i j := ⟨y 0, y 1, eq_ix2 y⟩
  rw [refOut_at]
  refine (congrArg (soft (F := Ideal) _ _ _) (eq_ix2 (rowIn (ix2 i j)))).trans ((soft_at _ _ _ (rowIn (ix2 i j) 0) j).trans ?_)
  congr 1
  funext k
  rw [bias_at]
  congr 1
  refine Finset.sum_congr rfl fun t _ => ?_
  refine congrArg₂ (fun p q : EReal => p * q) ((row_at c _ i j t).trans ?_) ?_
  · exact congrFun (V_main_arg0 m c) (ix2 i t)
  · exact congrFun (V_main_arg1 m c) (ix2 k t)

end Together

end Cert.Proof.Stream

end
-- ==== Proof.lean ====
/-
  The proof of `Cert.Claim`: the three programs run, end with their arguments unchanged and every semaphore counter at
  zero; and at exact arithmetic the kernel's result is the reference's. The kernel's run is proved once, over any float
  values (Proof/Run.lean), and read here at both.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Equal

@[expose] public section

noncomputable section

namespace Cert.Proof

open Idealize.ShloMosaic Idealize.SL.Sem

/-- The kernel runs at machine floats: its run at those. -/
theorem frame_kernel : Cert.quiescent_Kernel := fun m ρ _ =>
  (θ_run Cert.KernelIdeal.defs _ _).mono (fun _ h => ⟨fun c => (h.1 c).2, h.2⟩) (Stream.run_main (F := Bits) m ρ)

/-- The kernel runs at exact arithmetic. -/
theorem frame_ideal : Cert.quiescent_KernelIdeal := fun m ρ _ =>
  (θ_run Cert.KernelIdeal.defs _ _).mono (fun _ h => ⟨fun c => (h.1 c).2, h.2⟩) (Stream.run_main (F := Ideal) m ρ)

/-- The reference runs; it holds no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's. -/
theorem same_value : Cert.algebraic_KernelIdeal_ReferenceIdeal := fun m ρ m' ρ' _ hargs =>
  ⟨fun c => Stream.final m c,
    (θ_run Cert.KernelIdeal.defs _ _).mono (fun _ h c => h.1 c) (Stream.run_main (F := Ideal) m ρ),
    (θ_run Cert.ReferenceIdeal.defs _ _).mono (fun _ h c => ⟨(h c).1.trans (by
        obtain ⟨e0, e1, e2⟩ := hargs c
        rw [e0, e1, e2]
        exact (Stream.final_eq m c).symm), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, same_value⟩

end Cert.Proof

end
